-- ==== Defs.lean ====
def Pre_Kernel [hPre_groups_fill : Cert.Pre_groups_fill.Facts] (m : (ℓ : Loc Cert.Kernel.nD Cert.Kernel.τ Cert.Kernel.sig) → Buf (Elt Bits) ℓ) : Prop :=
  ∀ c : Dev Cert.Kernel.nD,
    (Cert.Pre_groups_fill.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups_fill : Cert.Pre_groups_fill.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fill.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_groups_fill_tokens_finite [hPre_groups_fill_tokens_finite : Cert.Pre_groups_fill_tokens_finite.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fill_tokens_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_fill_tokens_finite [hPre_groups_fill_tokens_finite : Cert.Pre_groups_fill_tokens_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fill_tokens_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups_fill : Cert.Pre_groups_fill.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_fill : Cert.Pre_groups_fill.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_groups_fill_tokens_finite [hKernelIdeal : Cert.KernelIdeal.Facts] [hPre_groups_fill_tokens_finite : Cert.Pre_groups_fill_tokens_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_fill_tokens_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_groups_fill_tokens_finite [hReferenceIdeal : Cert.ReferenceIdeal.Facts] [hPre_groups_fill_tokens_finite : Cert.Pre_groups_fill_tokens_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_fill_tokens_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_groups_fill_tokens_finite [hKernelIdeal : Cert.KernelIdeal.Facts] [hReferenceIdeal : Cert.ReferenceIdeal.Facts] [hPre_groups_fill_tokens_finite : Cert.Pre_groups_fill_tokens_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_fill_tokens_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_fill : Cert.Pre_groups_fill.Facts) (hPre_groups_fill_tokens_finite : Cert.Pre_groups_fill_tokens_finite.Facts),
    quiescent_Kernel (hKernel := hKernel) (hPre_groups_fill := hPre_groups_fill)
    ∧ quiescent_KernelIdeal (hKernelIdeal := hKernelIdeal) (hPre_groups_fill := hPre_groups_fill)
    ∧ quiescent_KernelIdeal_pre_groups_fill_tokens_finite (hKernelIdeal := hKernelIdeal) (hPre_groups_fill_tokens_finite := hPre_groups_fill_tokens_finite)
    ∧ quiescent_ReferenceIdeal (hReferenceIdeal := hReferenceIdeal)
    ∧ quiescent_ReferenceIdeal_pre_groups_fill_tokens_finite (hReferenceIdeal := hReferenceIdeal) (hPre_groups_fill_tokens_finite := hPre_groups_fill_tokens_finite)
    ∧ preserves_Kernel_KernelIdeal
    ∧ algebraic_KernelIdeal_ReferenceIdeal_pre_groups_fill_tokens_finite (hKernelIdeal := hKernelIdeal) (hReferenceIdeal := hReferenceIdeal) (hPre_groups_fill_tokens_finite := hPre_groups_fill_tokens_finite)
-- ==== Pre_groups_fill.lean ====
abbrev S16384x2048 : Shape := ⟨2, ![16384, 2048]⟩
abbrev S16 : Shape := ⟨1, ![16]⟩
abbrev S16x2048x2048 : Shape := ⟨3, ![16, 2048, 2048]⟩
abbrev S16x16x16 : Shape := ⟨3, ![16, 16, 16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16384x2048 .bf16) (main_arg1 : IVec S16 32) (main_arg2 : FVec F S16x2048x2048 .fp8e4m3) (main_arg3 : FVec F S16x16x16 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 16384#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg1 main_c_2
  let main_c_3 : IVec S_ 32 := constantI S_ 32 16384#32
  let main_v7 : IVec S_ 1 := cmpi .eq main_v6 main_c_3
  let main_v8 : IVec S_ 1 := andi main_v5 main_v7
  main_v8
-- ==== Pre_groups_fill_tokens_finite.lean ====
abbrev S16384x2048 : Shape := ⟨2, ![16384, 2048]⟩
abbrev S16 : Shape := ⟨1, ![16]⟩
abbrev S16x2048x2048 : Shape := ⟨3, ![16, 2048, 2048]⟩
abbrev S16x16x16 : Shape := ⟨3, ![16, 16, 16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_

variable [Facts]

def fn {F : FTy → Type} [FloatOps F] (main_arg0 : FVec F S16384x2048 .bf16) (main_arg1 : IVec S16 32) (main_arg2 : FVec F S16x2048x2048 .fp8e4m3) (main_arg3 : FVec F S16x16x16 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 16384#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg1 main_c_2
  let main_c_3 : IVec S_ 32 := constantI S_ 32 16384#32
  let main_v7 : IVec S_ 1 := cmpi .eq main_v6 main_c_3
  let main_v8 : IVec S_ 1 := andi main_v5 main_v7
  let main_v9 : FVec F S16384x2048 .f32 := (extf .f32 · bitsLt_bf16_f32) main_arg0
  let main_v10 : FVec F S16384x2048 .f32 := Host.absf main_v9
  let main_cst : FVec F S_ .f32 := constant S_ .f32 0x7F7F0000#32
  let main_v11 : FVec F S16384x2048 .f32 := broadcastInDim S16384x2048 ![] bcast_S_S16384x2048 main_cst
  let main_v12 : IVec S16384x2048 1 := cmpf .ole main_v10 main_v11
  let main_c_4 : IVec S_ 1 := constantI S_ 1 1#1
  let main_v13 : IVec S_ 1 := (fun x v => Host.reduce IntOp.andi x v reducesTo_S16384x2048_S_d0_1 h_S_) main_v12 main_c_4
  let main_v14 : IVec S_ 1 := andi main_v8 main_v13
  main_v14
-- ==== Kernel.lean ====
abbrev S16384x2048 : Shape := ⟨2, ![16384, 2048]⟩
abbrev S16 : Shape := ⟨1, ![16]⟩
abbrev S16x2048x2048 : Shape := ⟨3, ![16, 2048, 2048]⟩
abbrev S16x16x16 : Shape := ⟨3, ![16, 16, 16]⟩
abbrev S_ : Shape := ⟨0, ![]⟩
abbrev S47 : Shape := ⟨1, ![47]⟩
abbrev S1 : Shape := ⟨1, ![1]⟩
abbrev S47x1 : Shape := ⟨2, ![47, 1]⟩
abbrev S1x16 : Shape := ⟨2, ![1, 16]⟩
abbrev S47x16 : Shape := ⟨2, ![47, 16]⟩
abbrev S512x2048 : Shape := ⟨2, ![512, 2048]⟩
abbrev S1x2048x2048 : Shape := ⟨3, ![1, 2048, 2048]⟩
abbrev S1x16x16 : Shape := ⟨3, ![1, 16, 16]⟩
abbrev S512x128 : Shape := ⟨2, ![512, 128]⟩
abbrev S512 : Shape := ⟨1, ![512]⟩
abbrev S512x1 : Shape := ⟨2, ![512, 1]⟩
abbrev S1x256 : Shape := ⟨2, ![1, 256]⟩
abbrev S512x256 : Shape := ⟨2, ![512, 256]⟩
abbrev S1x1x1 : Shape := ⟨3, ![1, 1, 1]⟩
abbrev S1x1 : Shape := ⟨2, ![1, 1]⟩
abbrev S1x128x128 : Shape := ⟨3, ![1, 128, 128]⟩
abbrev S128x128 : Shape := ⟨2, ![128, 128]⟩
abbrev S128x256 : Shape := ⟨2, ![128, 256]⟩
abbrev S2048x256 : Shape := ⟨2, ![2048, 256]⟩

abbrev nBuf : Space → Nat
  | .hbm => 94
  | .vmem => 9
  | .smem => 4
  | _ => 0

abbrev bufTy : (tb : Table) → Fin (tcTables nBuf tb) → BufTy
  | .hbm, ⟨0, _⟩ => ⟨S16384x2048, .bf16⟩
  | .hbm, ⟨1, _⟩ => ⟨S16, .i32⟩
  | .hbm, ⟨2, _⟩ => ⟨S16x2048x2048, .fp8e4m3⟩
  | .hbm, ⟨3, _⟩ => ⟨S16x16x16, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S16, .i1⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S_, .i32⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S16, .i32⟩
  | .hbm, ⟨35, _⟩ => ⟨S_, .i32⟩
  | .hbm, ⟨36, _⟩ => ⟨S16, .i32⟩
  | .hbm, ⟨37, _⟩ => ⟨S16, .i1⟩
  | .hbm, ⟨38, _⟩ => ⟨S16, .i32⟩
  | .hbm, ⟨39, _⟩ => ⟨S16, .i32⟩
  | .hbm, ⟨40, _⟩ => ⟨S_, .i32⟩
  | .hbm, ⟨41, _⟩ => ⟨S16, .i32⟩
  | .hbm, ⟨42, _⟩ => ⟨S16, .i1⟩
  | .hbm, ⟨43, _⟩ => ⟨S16, .i1⟩
  | .hbm, ⟨44, _⟩ => ⟨S_, .i32⟩
  | .hbm, ⟨45, _⟩ => ⟨S16, .i32⟩
  | .hbm, ⟨46, _⟩ => ⟨S16, .i32⟩
  | .hbm, ⟨47, _⟩ => ⟨S16, .i32⟩
  | .hbm, ⟨48, _⟩ => ⟨S16, .i32⟩
  | .hbm, ⟨49, _⟩ => ⟨S_, .i32⟩
  | .hbm, ⟨50, _⟩ => ⟨S16, .i32⟩
  | .hbm, ⟨51, _⟩ => ⟨S16, .i32⟩
  | .hbm, ⟨52, _⟩ => ⟨S_, .i32⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S_, .i32⟩
  | .hbm, ⟨57, _⟩ => ⟨S_, .i32⟩
  | .hbm, ⟨58, _⟩ => ⟨S16, .i32⟩
  | .hbm, ⟨59, _⟩ => ⟨S47, .i32⟩
  | .hbm, ⟨60, _⟩ => ⟨S1, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S47, .i32⟩
  | .hbm, ⟨65, _⟩ => ⟨S47, .i32⟩
  | .hbm, ⟨66, _⟩ => ⟨S47x1, .i32⟩
  | .hbm, ⟨67, _⟩ => ⟨S1x16, .i32⟩
  | .hbm, ⟨68, _⟩ => ⟨S47x16, .i32⟩
  | .hbm, ⟨69, _⟩ => ⟨S47x16, .i32⟩
  | .hbm, ⟨70, _⟩ => ⟨S47x16, .i1⟩
  | .hbm, ⟨71, _⟩ => ⟨S47x16, .i32⟩
  | .hbm, ⟨72, _⟩ => ⟨S_, .i32⟩
  | .hbm, ⟨73, _⟩ => ⟨S_, .i32⟩
  | .hbm, ⟨74, _⟩ => ⟨S47, .i32⟩
  | .hbm, ⟨75, _⟩ => ⟨S47, .i1⟩
  | .hbm, ⟨76, _⟩ => ⟨S_, .i32⟩
  | .hbm, ⟨77, _⟩ => ⟨S47, .i32⟩
  | .hbm, ⟨78, _⟩ => ⟨S47, .i32⟩
  | .hbm, ⟨79, _⟩ => ⟨S47, .i32⟩
  | .hbm, ⟨80, _⟩ => ⟨S47x1, .i32⟩
  | .hbm, ⟨81, _⟩ => ⟨S47, .i32⟩
  | .hbm, ⟨82, _⟩ => ⟨S47, .i32⟩
  | .hbm, ⟨83, _⟩ => ⟨S16, .i32⟩
  | .hbm, ⟨84, _⟩ => ⟨S_, .i32⟩
  | .hbm, ⟨85, _⟩ => ⟨S47, .i32⟩
  | .hbm, ⟨86, _⟩ => ⟨S47, .i1⟩
  | .hbm, ⟨87, _⟩ => ⟨S_, .i32⟩
  | .hbm, ⟨88, _⟩ => ⟨S47, .i32⟩
  | .hbm, ⟨89, _⟩ => ⟨S47, .i32⟩
  | .hbm, ⟨90, _⟩ => ⟨S47, .i32⟩
  | .hbm, ⟨91, _⟩ => ⟨S47x1, .i32⟩
  | .hbm, ⟨92, _⟩ => ⟨S47, .i32⟩
  | .hbm, ⟨93, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .fp8e4m3⟩
  | .local _ .vmem, ⟨3, _⟩ => ⟨S1x2048x2048, .fp8e4m3⟩
  | .local _ .vmem, ⟨4, _⟩ => ⟨S1x16x16, .f32⟩
  | .local _ .vmem, ⟨5, _⟩ => ⟨S1x16x16, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .smem, ⟨0, _⟩ => ⟨S47, .i32⟩
  | .local _ .smem, ⟨1, _⟩ => ⟨S47, .i32⟩
  | .local _ .smem, ⟨2, _⟩ => ⟨S16, .i32⟩
  | .local _ .smem, ⟨3, _⟩ => ⟨S16, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_c : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_v6 : Ref sig .tc := ⟨.hbm, 13, rfl⟩
abbrev main_call1_v7 : Ref sig .tc := ⟨.hbm, 14, rfl⟩
abbrev main_call1_v8 : Ref sig .tc := ⟨.hbm, 15, rfl⟩
abbrev main_call1_c : Ref sig .tc := ⟨.hbm, 16, rfl⟩
abbrev main_call1_v9 : Ref sig .tc := ⟨.hbm, 17, rfl⟩
abbrev main_call1_v10 : Ref sig .tc := ⟨.hbm, 18, rfl⟩
abbrev main_call1_v11 : Ref sig .tc := ⟨.hbm, 19, rfl⟩
abbrev main_call1_c_0 : Ref sig .tc := ⟨.hbm, 20, rfl⟩
abbrev main_call1_v12 : Ref sig .tc := ⟨.hbm, 21, rfl⟩
abbrev main_call1_v13 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_c_1 : Ref sig .tc := ⟨.hbm, 27, rfl⟩
abbrev main_v5 : Ref sig .tc := ⟨.hbm, 28, rfl⟩
abbrev main_v6 : Ref sig .tc := ⟨.hbm, 29, rfl⟩
abbrev main_c_2 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v7 : Ref sig .tc := ⟨.hbm, 47, rfl⟩
abbrev main_v8 : Ref sig .tc := ⟨.hbm, 48, rfl⟩
abbrev main_c_3 : Ref sig .tc := ⟨.hbm, 49, rfl⟩
abbrev main_v9 : Ref sig .tc := ⟨.hbm, 50, rfl⟩
abbrev main_v10 : Ref sig .tc := ⟨.hbm, 51, rfl⟩
abbrev main_c_4 : Ref sig .tc := ⟨.hbm, 52, rfl⟩
abbrev main_call3_v0 : Ref sig .tc := ⟨.hbm, 53, rfl⟩
abbrev main_call3_v1 : Ref sig .tc := ⟨.hbm, 54, rfl⟩
abbrev main_v11 : Ref sig .tc := ⟨.hbm, 55, rfl⟩
abbrev main_call4_call0_c : Ref sig .tc := ⟨.hbm, 56, rfl⟩
abbrev main_call4_call0_v0 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_c_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_6 : Ref sig .tc := ⟨.hbm, 72, rfl⟩
abbrev main_c_7 : Ref sig .tc := ⟨.hbm, 73, rfl⟩
abbrev main_v26 : Ref sig .tc := ⟨.hbm, 74, rfl⟩
abbrev main_v27 : Ref sig .tc := ⟨.hbm, 75, rfl⟩
abbrev main_c_8 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_c_9 : Ref sig .tc := ⟨.hbm, 84, rfl⟩
abbrev main_v35 : Ref sig .tc := ⟨.hbm, 85, rfl⟩
abbrev main_v36 : Ref sig .tc := ⟨.hbm, 86, rfl⟩
abbrev main_c_10 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v43 : Ref sig .tc := ⟨.hbm, 93, rfl⟩
abbrev main_v25 : Ref sig .tc := ⟨.smem, 0, rfl⟩
abbrev main_v42 : Ref sig .tc := ⟨.smem, 1, rfl⟩
abbrev main_v1 : Ref sig .tc := ⟨.smem, 2, rfl⟩
abbrev main_v0 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![47], ![false]⟩

abbrev pre0 : Pipeline.Prefetch sig := ⟨4, ![main_v25.idx, main_v42.idx, main_v1.idx, main_v0.idx], fun | 0 => main_v25.names | 1 => main_v42.names | 2 => main_v1.names | 3 => main_v0.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v4 : BitVec 32 := Scalar.subi arg0 c1_i32
  let c0_i32 : BitVec 32 := 0#32
  let v5 : BitVec 32 := Scalar.maxsi v4 c0_i32
  let v6 : Index := Scalar.indexCast v5
  ![v6.toNat]
def k0_off3 (v1 : BitVec 32) : Fin 1 → Nat :=
  let v17 : Index := Scalar.indexCast v1
  ![v17.toNat]

def k0_chk1 (v1 : BitVec 32) : Prop :=
  (∀ a, (k0_off3 v1) a + S1.size a ≤ S16.size a)
theorem k0_off3_inb : ∀ (v1 : BitVec 32) (k0_hw1 : k0_chk1 v1), ∀ a, (k0_off3 v1) a + S1.size a ≤ S16.size a := fun v1 k0_hw1 => k0_hw1

def cc0_transform_0 (k0_off1_inb : ∀ i : grid0.Coords, ∀ a, (k0_off1 i) a + S1.size a ≤ S47.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S47) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S47.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S47) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S47.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S47) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S47.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S47) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x2048 : Shape := ⟨2, ![16384, 2048]⟩
abbrev S16 : Shape := ⟨1, ![16]⟩
abbrev S16x2048x2048 : Shape := ⟨3, ![16, 2048, 2048]⟩
abbrev S16x16x16 : Shape := ⟨3, ![16, 16, 16]⟩
abbrev S_ : Shape := ⟨0, ![]⟩
abbrev S16384x16x128 : Shape := ⟨3, ![16384, 16, 128]⟩
abbrev S16384x16 : Shape := ⟨2, ![16384, 16]⟩
abbrev S16384x16x1 : Shape := ⟨3, ![16384, 16, 1]⟩
abbrev S1x2048x2048 : Shape := ⟨3, ![1, 2048, 2048]⟩
abbrev S2048x2048 : Shape := ⟨2, ![2048, 2048]⟩
abbrev S16x128x16x128 : Shape := ⟨4, ![16, 128, 16, 128]⟩
abbrev S1x16x16 : Shape := ⟨3, ![1, 16, 16]⟩
abbrev S16x16 : Shape := ⟨2, ![16, 16]⟩
abbrev S16x1x16x1 : Shape := ⟨4, ![16, 1, 16, 1]⟩
abbrev S1 : Shape := ⟨1, ![1]⟩

abbrev nBuf : Space → Nat
  | .hbm => 9
  | .vmem => 4
  | .smem => 2
  | _ => 0

abbrev bufTy : (tb : Table) → Fin (tcTables nBuf tb) → BufTy
  | .hbm, ⟨0, _⟩ => ⟨S16384x2048, .bf16⟩
  | .hbm, ⟨1, _⟩ => ⟨S16, .i32⟩
  | .hbm, ⟨2, _⟩ => ⟨S16x2048x2048, .fp8e4m3⟩
  | .hbm, ⟨3, _⟩ => ⟨S16x16x16, .f32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S16384x2048, .bf16⟩
  | .local _ .vmem, ⟨0, _⟩ => ⟨S16384x2048, .bf16⟩
  | .local _ .vmem, ⟨1, _⟩ => ⟨S16x2048x2048, .fp8e4m3⟩
  | .local _ .vmem, ⟨2, _⟩ => ⟨S16x16x16, .f32⟩
  | .local _ .vmem, ⟨3, _⟩ => ⟨S16384x2048, .bf16⟩
  | .local _ .smem, ⟨0, _⟩ => ⟨S16, .i32⟩
  | .local _ .smem, ⟨1, _⟩ => ⟨S16, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Fill.lean ====
/- The work items of a grouped matmul, in natural numbers: group `i` holds `g i` rows of 16384, the rows are cut into tiles of
   512, and an item is one (group, tile) pair that meets. What the kernel needs of the list of items. -/
module

public import Idealize.ShloMosaic.Lib.Routing.OpsSet
public import Idealize.ShloMosaic.Lib.Routing.Words

@[expose] public section

namespace Cert.Fill

/-- The first row of group `i`. -/
def S (g : ℕ → ℕ) : ℕ → ℕ
  | 0 => 0
  | i + 1 => S g i + g i

/-- How many tiles group `i` meets. -/
def nt (g : ℕ → ℕ) (i : ℕ) : ℕ := if 0 < g i then (S g i + g i - 1) / 512 - S g i / 512 + 1 else 0

/-- The first item of group `i`. -/
def B (g : ℕ → ℕ) : ℕ → ℕ
  | 0 => 0
  | i + 1 => B g i + nt g i

/-- The item that grid point `t` works on: the last one is repeated. -/
def item (g : ℕ → ℕ) (t : ℕ) : ℕ := min t (B g 16 - 1)

/-- The group of grid point `t`. -/
def grp (g : ℕ → ℕ) (t : ℕ) : ℕ := Nat.count (fun i => B g (i + 1) ≤ item g t) 16

/-- The tile of grid point `t`. -/
def tile (g : ℕ → ℕ) (t : ℕ) : ℕ := S g (grp g t) / 512 + item g t - B g (grp g t)

variable {g : ℕ → ℕ}

theorem S_mono {a b : ℕ} (h : a ≤ b) : S g a ≤ S g b := by
  induction h with
  | refl => exact le_rfl
  | step _ ih => exact ih.trans (Nat.le_add_right _ _)

theorem B_mono {a b : ℕ} (h : a ≤ b) : B g a ≤ B g b := by
  induction h with
  | refl => exact le_rfl
  | step _ ih => exact ih.trans (Nat.le_add_right _ _)

/-- Groups between two with no item between them are empty. -/
theorem S_eq_of_B_eq {a b : ℕ} (h : a ≤ b) (e : B g a = B g b) : S g a = S g b := by
  induction h with
  | refl => rfl
  | @step m hm ih =>
    have h1 : B g a ≤ B g m := B_mono hm
    change B g a = B g (m + 1) at e
    change _ = S g (m + 1)
    have h2 : B g (m + 1) = B g m + nt g m := rfl
    have h3 : S g (m + 1) = S g m + g m := rfl
    have h4 : nt g m = 0 := by omega
    have h5 : g m = 0 := by
      unfold nt at h4
      split at h4 <;> omega
    rw [h3, h5, ← ih (by omega)]; rfl

theorem B_le (i : ℕ) : (S g i = 0 ∧ B g i = 0) ∨ B g i + 1 ≤ (S g i + 511) / 512 + i := by
  induction i with
  | zero => exact .inl ⟨rfl, rfl⟩
  | succ m ih =>
    have h2 : B g (m + 1) = B g m + nt g m := rfl
    have h3 : S g (m + 1) = S g m + g m := rfl
    rw [h2, h3]
    unfold nt
    split
    · right
      rcases ih with ⟨h, h'⟩ | h
      · rw [h, h']; omega
      · omega
    · have : g m = 0 := by omega
      rw [this]
      rcases ih with h | h
      · left; omega
      · right; omega

theorem B16_pos (hS : S g 16 = 16384) : 0 < B g 16 := by
  by_contra h
  have := S_eq_of_B_eq (g := g) (Nat.zero_le 16) (by show 0 = _; omega)
  rw [hS] at this
  exact absurd (show 0 = 16384 from this) (by decide)

theorem B16_le (hS : S g 16 = 16384) : B g 16 ≤ 47 := by
  rcases B_le (g := g) 16 with h | h <;> omega

theorem S_le (hS : S g 16 = 16384) {i : ℕ} (hi : i ≤ 16) : S g i ≤ 16384 := hS ▸ S_mono hi

/-- The group of an item: the first whose items reach past it. -/
theorem grp_eq {t i : ℕ} (hi : i < 16) (h0 : B g i ≤ item g t) (h1 : item g t < B g (i + 1)) : grp g t = i := by
  unfold grp
  rw [show 16 = i + (16 - i) by omega, Nat.count_add]
  have e1 : Nat.count (fun i => B g (i + 1) ≤ item g t) i = i := by
    rw [Nat.count_iff_forall]
    intro j hj
    exact (B_mono hj).trans h0
  have e2 : Nat.count (fun k => B g (i + k + 1) ≤ item g t) (16 - i) = 0 := by
    rw [Nat.count_iff_forall_not]
    intro j hj
    have := B_mono (g := g) (show i + 1 ≤ i + j + 1 by omega)
    omega
  rw [e1, e2]; rfl

/-- Every grid point's item lies in its group. -/
theorem grp_spec (hS : S g 16 = 16384) (t : ℕ) :
    grp g t < 16 ∧ B g (grp g t) ≤ item g t ∧ item g t < B g (grp g t + 1) := by
  have hp := B16_pos hS
  have hlt : item g t < B g 16 := by unfold item; omega
  have key : ∀ n, item g t < B g n → ∃ i, i < n ∧ B g i ≤ item g t ∧ item g t < B g (i + 1) := by
    intro n
    induction n with
    | zero => intro h; exact absurd h (Nat.not_lt_zero _)
    | succ m ih =>
      intro h
      by_cases hm : item g t < B g m
      · obtain ⟨i, a, b⟩ := ih hm
        exact ⟨i, a.trans (Nat.lt_succ_self _), b⟩
      · exact ⟨m, Nat.lt_succ_self _, by omega, h⟩
  obtain ⟨i, hi, h0, h1⟩ := key 16 hlt
  rw [grp_eq hi h0 h1]
  exact ⟨hi, h0, h1⟩

/-- What the items of a nonempty group say in rows. -/
theorem grp_rows (hS : S g 16 = 16384) (t : ℕ) :
    0 < g (grp g t) ∧ item g t - B g (grp g t) ≤ (S g (grp g t + 1) - 1) / 512 - S g (grp g t) / 512
      ∧ B g (grp g t + 1) = B g (grp g t) + ((S g (grp g t + 1) - 1) / 512 - S g (grp g t) / 512 + 1) := by
  obtain ⟨h, h0, h1⟩ := grp_spec hS t
  have h2 : B g (grp g t + 1) = B g (grp g t) + nt g (grp g t) := rfl
  have h3 : S g (grp g t + 1) = S g (grp g t) + g (grp g t) := rfl
  unfold nt at h2
  rw [h3]
  split at h2
  · refine ⟨by assumption, by omega, h2⟩
  · omega

theorem tile_le (hS : S g 16 = 16384) (t : ℕ) : tile g t ≤ (S g (grp g t + 1) - 1) / 512 := by
  obtain ⟨h, h0, h1⟩ := grp_spec hS t
  obtain ⟨a, b, _⟩ := grp_rows hS t
  have h3 : S g (grp g t + 1) = S g (grp g t) + g (grp g t) := rfl
  unfold tile
  omega

theorem tile_lt (hS : S g 16 = 16384) (t : ℕ) : tile g t < 32 := by
  have h := tile_le hS t
  have := S_le hS (show grp g t + 1 ≤ 16 from (grp_spec hS t).1)
  omega

theorem item_succ (t : ℕ) : item g (t + 1) = item g t ∨ item g (t + 1) = item g t + 1 := by
  unfold item; omega

/-- From a grid point to the next: the same group and the same item, the same group and the next tile, or the next nonempty group,
    which starts where the old one ends and at the tile in which the old one ends. -/
theorem step (hS : S g 16 = 16384) (t : ℕ) :
    (grp g (t + 1) = grp g t ∧ tile g (t + 1) = tile g t) ∨
    (grp g (t + 1) = grp g t ∧ tile g (t + 1) = tile g t + 1) ∨
    (S g (grp g (t + 1)) = S g (grp g t + 1) ∧ tile g t = (S g (grp g t + 1) - 1) / 512 ∧ tile g (t + 1) = S g (grp g t + 1) / 512) := by
  obtain ⟨h, h0, h1⟩ := grp_spec hS t
  obtain ⟨h', h0', h1'⟩ := grp_spec hS (t + 1)
  obtain ⟨a, b, c⟩ := grp_rows hS t
  have hs := item_succ (g := g) t
  have h3 : S g (grp g t + 1) = S g (grp g t) + g (grp g t) := rfl
  by_cases e : grp g (t + 1) = grp g t
  · rcases hs with hs | hs
    · left; refine ⟨e, ?_⟩; unfold tile; rw [e, hs]
    · right; left; refine ⟨e, ?_⟩; unfold tile; rw [e, hs]; omega
  · right; right
    have hlt : grp g t < grp g (t + 1) := by
      by_contra hge
      have := B_mono (g := g) (show grp g (t + 1) + 1 ≤ grp g t by omega)
      omega
    have hm := B_mono (g := g) (show grp g t + 1 ≤ grp g (t + 1) from hlt)
    have hB : B g (grp g t + 1) = B g (grp g (t + 1)) := by omega
    have hSe := S_eq_of_B_eq (show grp g t + 1 ≤ grp g (t + 1) from hlt) hB
    refine ⟨hSe.symm, ?_, ?_⟩
    · unfold tile; omega
    · unfold tile; rw [← hSe]; omega

/-- The first grid point starts at row 0. -/
theorem first (hS : S g 16 = 16384) : S g (grp g 0) = 0 ∧ tile g 0 = 0 := by
  obtain ⟨h, h0, h1⟩ := grp_spec hS 0
  have hi : item g 0 = 0 := by unfold item; omega
  have e : B g 0 = B g (grp g 0) := by show 0 = _; omega
  have := S_eq_of_B_eq (Nat.zero_le _) e
  have hz : S g (grp g 0) = 0 := this.symm
  refine ⟨hz, ?_⟩
  unfold tile; rw [hz]; omega

/-- The last grid point ends at row 16384. -/
theorem last (hS : S g 16 = 16384) : S g (grp g 46 + 1) = 16384 ∧ tile g 46 = 31 := by
  obtain ⟨h, h0, h1⟩ := grp_spec hS 46
  obtain ⟨a, b, c⟩ := grp_rows hS 46
  have hp := B16_pos hS
  have hl := B16_le hS
  have hi : item g 46 = B g 16 - 1 := by unfold item; omega
  have hm := B_mono (g := g) (show grp g 46 + 1 ≤ 16 from h)
  have e : B g (grp g 46 + 1) = B g 16 := by omega
  have hs := S_eq_of_B_eq (show grp g 46 + 1 ≤ 16 from h) e
  rw [hS] at hs
  have h3 : S g (grp g 46 + 1) = S g (grp g 46) + g (grp g 46) := rfl
  refine ⟨hs, ?_⟩
  unfold tile; omega

/-- A group whose tile is new starts no later than the tile. -/
theorem start_le (hS : S g 16 = 16384) (t : ℕ) (h : tile g (t + 1) ≠ tile g t) : S g (grp g (t + 1)) ≤ 512 * tile g (t + 1) := by
  obtain ⟨_, h0', _⟩ := grp_spec hS (t + 1)
  rcases step hS t with ⟨a, b⟩ | ⟨a, b⟩ | ⟨a, b, c⟩
  · exact absurd b h
  · obtain ⟨_, h0, _⟩ := grp_spec hS t
    have : S g (grp g t) / 512 ≤ tile g t := by unfold tile; omega
    rw [a, b]; omega
  · rw [a, c]; omega

/-- A group whose tile is the last one's starts no later than the last group ends. -/
theorem start_le_end (hS : S g 16 = 16384) (t : ℕ) (h : tile g (t + 1) = tile g t) : S g (grp g (t + 1)) ≤ S g (grp g t + 1) := by
  rcases step hS t with ⟨a, b⟩ | ⟨a, b⟩ | ⟨a, b, c⟩
  · rw [a]; exact Nat.le_add_right _ _
  · rw [a]; exact Nat.le_add_right _ _
  · exact a.le

/-- Where the next tile is another, the group ends no earlier than the tile. -/
theorem end_ge (hS : S g 16 = 16384) (t : ℕ) (h : tile g (t + 1) ≠ tile g t) : 512 * (tile g t + 1) ≤ S g (grp g t + 1) := by
  obtain ⟨hp, _, _⟩ := grp_rows hS t
  have h3 : S g (grp g t + 1) = S g (grp g t) + g (grp g t) := rfl
  rcases step hS t with ⟨a, b⟩ | ⟨a, b⟩ | ⟨a, b, c⟩
  · exact absurd b h
  · have := tile_le hS (t + 1)
    rw [a, b] at this
    omega
  · omega

/-- Tiles come in order, none left out. -/
theorem tile_step (hS : S g 16 = 16384) (t : ℕ) : tile g (t + 1) = tile g t ∨ tile g (t + 1) = tile g t + 1 := by
  obtain ⟨hp, _, _⟩ := grp_rows hS t
  have h3 : S g (grp g t + 1) = S g (grp g t) + g (grp g t) := rfl
  rcases step hS t with ⟨a, b⟩ | ⟨a, b⟩ | ⟨a, b, c⟩
  · exact .inl b
  · exact .inr b
  · omega

/-- Every tile has a last grid point, and at that point its group reaches the tile's end. -/
theorem tile_last (hS : S g 16 = 16384) (k : ℕ) (hk : k < 32) :
    ∃ t, t < 47 ∧ tile g t = k ∧ (t = 46 ∨ tile g (t + 1) ≠ tile g t) ∧ 512 * (k + 1) ≤ S g (grp g t + 1) := by
  have hl := last hS
  have key : ∀ n, n ≤ 46 → tile g (46 - n) ≤ k → ∃ t, t < 47 ∧ tile g t = k ∧ (t = 46 ∨ tile g (t + 1) ≠ tile g t) := by
    intro n
    induction n with
    | zero => intro _ h; exact ⟨46, by omega, by simp only [Nat.sub_zero] at h; omega, .inl rfl⟩
    | succ m ih =>
      intro hm h
      by_cases hc : tile g (46 - m) ≤ k
      · exact ih (by omega) hc
      · have hs := tile_step hS (46 - (m + 1))
        rw [show 46 - (m + 1) + 1 = 46 - m by omega] at hs
        refine ⟨46 - (m + 1), by omega, by omega, .inr ?_⟩
        rw [show 46 - (m + 1) + 1 = 46 - m by omega]
        omega
  obtain ⟨t, ht, e, hend⟩ := key 46 le_rfl (by rw [Nat.sub_self, (first hS).2]; omega)
  refine ⟨t, ht, e, hend, ?_⟩
  rcases hend with rfl | h
  · rw [hl.1]; omega
  · rw [← e]; exact end_ge hS t h

end Cert.Fill
-- ==== Proof.Tables.lean ====
/- The four tables that the host computes for the kernel, as functions of the group sizes, and what they hold where the sizes
   fill the rows. -/
module

public import proofs.«01_k».proof.Proof.Gen.KernelIdeal
public import proofs.«01_k».proof.Proof.Fill
public import Idealize.ShloMosaic.Lib.ReduceAll

@[expose] public section

set_option maxRecDepth 16384

noncomputable section

namespace Cert.Tables

open Idealize.ShloMosaic Idealize.ShloMosaic.Routing Idealize.ShloMosaic.ValueIdx Idealize.ShloMosaic.WordCmp Cert.KernelIdeal Cert.KernelIdeal.Gen

/-! ## The tables, operation by operation as the host computes them -/

/-- A scalar constant spread over a vector. -/
def k16 (c : BitVec 32) : IVec S16 32 := broadcastInDim S16 ![] bcast_S_S16 (constantI S_ 32 c)
def k47 (c : BitVec 32) : IVec S47 32 := broadcastInDim S47 ![] bcast_S_S47 (constantI S_ 32 c)

theorem k16_at (c : BitVec 32) (i : S16.Idx) : k16 c i = c := rfl
theorem k47_at (c : BitVec 32) (i : S47.Idx) : k47 c i = c := rfl

/-- Running sums. -/
def csum (x : IVec S16 32) : IVec S16 32 :=
  Host.reduceWindow IntOp.addi ![16] ![1] ![15] ![0] x (broadcastInDim S_ ![] bcast_S_S_ (constantI S_ 32 0#32)) reduceWindows_S16_S16_w16s1p15_0 h_S_

def ends (gs : IVec S16 32) : IVec S16 32 := csum gs
def starts (gs : IVec S16 32) : IVec S16 32 := subi (ends gs) gs
def firstT (gs : IVec S16 32) : IVec S16 32 := pyDiv bcast_S_S16 (starts gs) (constantI S_ 32 512#32)
def lastT (gs : IVec S16 32) : IVec S16 32 := pyDiv bcast_S_S16 (subi (ends gs) (k16 1#32)) (constantI S_ 32 512#32)
def tilesN (gs : IVec S16 32) : IVec S16 32 :=
  select (cmpi .sgt gs (k16 0#32)) (addi (subi (lastT gs) (firstT gs)) (k16 1#32)) (k16 0#32)
def cum (gs : IVec S16 32) : IVec S16 32 := csum (tilesN gs)
def itemsOf (c : IVec S16 32) : IVec S47 32 :=
  minsi (iotaInDim S47 32 0) (broadcastInDim S47 ![] bcast_S_S47
    (subi (shapeCast S_ (extractStridedSlice S1 ![15] c slices_S16_S1_15) shapeCasts_S1_S_) (constantI S_ 32 1#32)))
def groupOf (c : IVec S16 32) : IVec S47 32 :=
  Host.reduce IntOp.addi (extui 32 (cmpi .sge
    (broadcastInDim S47x16 ![0, 1] bcast_S47x1_S47x16_0_1 (broadcastInDim S47x1 ![0] bcast_S47_S47x1_0 (itemsOf c)))
    (broadcastInDim S47x16 ![0, 1] bcast_S1x16_S47x16_0_1 (broadcastInDim S1x16 ![1] bcast_S16_S1x16_1 c))) natLt_1_32)
    (constantI S_ 32 0#32) reducesTo_S47x16_S47_d1 h_S_
/-- An index column, a negative one counted from the end. -/
def wrapped (x : IVec S47 32) : IVec S47x1 32 :=
  broadcastInDim S47x1 ![0] bcast_S47_S47x1_0 (select (cmpi .slt x (k47 0#32)) (addi x (k47 16#32)) x)
def tileOf (f n c : IVec S16 32) : IVec S47 32 :=
  subi (addi (Host.gather gather_S16_S47x1_S47_n_0_n_n_0_1_1 f (wrapped (groupOf c))) (itemsOf c))
    (Host.gather gather_S16_S47x1_S47_n_0_n_n_0_1_1 (subi c n) (wrapped (groupOf c)))
def items (gs : IVec S16 32) : IVec S47 32 := itemsOf (cum gs)
def group (gs : IVec S16 32) : IVec S47 32 := groupOf (cum gs)
def tile (gs : IVec S16 32) : IVec S47 32 := tileOf (firstT gs) (tilesN gs) (cum gs)

/-! ## Their entries in natural numbers -/

/-- The group sizes as natural numbers. -/
def gn (gs : IVec S16 32) (i : ℕ) : ℕ := if h : i < 16 then (gs (ix1 ⟨i, h⟩)).toNat else 0

variable {gs : IVec S16 32}

theorem gs_at (i : Fin 16) : gs (ix1 i) = BitVec.ofNat 32 (gn gs i.val) := by
  unfold gn
  rw [dif_pos i.isLt, BitVec.ofNat_toNat, BitVec.setWidth_eq]

theorem sum_range (f : ℕ → ℕ) (h : ℕ → ℕ) (h0 : h 0 = 0) (hs : ∀ i, h (i + 1) = h i + f i) (n : ℕ) :
    ((List.range n).map f).sum = h n := by
  induction n with
  | zero => rw [h0]; rfl
  | succ m ih => rw [List.range_succ, List.map_append, List.sum_append, ih, hs]; simp

theorem word_of_one (v : IVec S1 32) : shapeCast S_ v shapeCasts_S1_S_ ValueIdx.ix0 = v (ix1 0) := by
  unfold shapeCast
  refine congrArg v (funext fun a => Fin.ext ?_)
  match a with
  | ⟨0, h⟩ => exact Nat.lt_one_iff.mp (Fin.isLt _)

theorem minsi_bound (w : IVec S_ 32) (t : Fin 47) :
    minsi (iotaInDim S47 32 0) (broadcastInDim S47 ![] bcast_S_S47 (subi w (constantI S_ 32 1#32))) (ix1 t)
      = IntOp.minsi (BitVec.ofNat 32 t.val) (w ValueIdx.ix0 - 1#32) := by
  show IntOp.minsi (iotaInDim S47 32 0 (ix1 t)) _ = _
  rw [iota1_ap, bc0]
  rfl

variable (hS : Fill.S (gn gs) 16 = 16384)

theorem ends_at (i : Fin 16) : ends gs (ix1 i) = BitVec.ofNat 32 (Fill.S (gn gs) (i.val + 1)) := by
  unfold ends csum
  rw [cumsum1 (N := 16) (Nm1 := 15) rfl gs (gn gs) (gs_at (gs := gs)) _ rfl, sum_range _ (Fill.S (gn gs)) rfl fun _ => rfl]

theorem word_sub {a b : ℕ} (h : b ≤ a) : BitVec.ofNat 32 a - BitVec.ofNat 32 b = BitVec.ofNat 32 (a - b) := by
  obtain ⟨k, rfl⟩ := Nat.exists_eq_add_of_le h
  rw [Nat.add_sub_cancel_left, BitVec.ofNat_add]
  exact add_sub_cancel_left _ _

theorem starts_at (i : Fin 16) : starts gs (ix1 i) = BitVec.ofNat 32 (Fill.S (gn gs) i.val) := by
  unfold starts
  rw [subi_ap, ends_at, gs_at (gs := gs) i]
  show BitVec.ofNat 32 (Fill.S (gn gs) i.val + gn gs i.val) - _ = _
  rw [word_sub (Nat.le_add_left _ _), Nat.add_sub_cancel]

include hS

theorem S_le (i : ℕ) (h : i ≤ 16) : Fill.S (gn gs) i ≤ 16384 := Fill.S_le hS h

theorem firstT_at (i : Fin 16) : firstT gs (ix1 i) = BitVec.ofNat 32 (Fill.S (gn gs) i.val / 512) := by
  have := S_le hS i.val i.isLt.le
  exact pyDiv_ap _ _ _ _ (starts_at i) rfl (by omega) (by decide) (by decide)

theorem tilesN_at (i : Fin 16) : tilesN gs (ix1 i) = BitVec.ofNat 32 (Fill.nt (gn gs) i.val) := by
  have hl := S_le hS (i.val + 1) i.isLt
  have h3 : Fill.S (gn gs) (i.val + 1) = Fill.S (gn gs) i.val + gn gs i.val := rfl
  unfold tilesN
  rw [select_at, cmpi_at, k16_at, gs_at (gs := gs) i]
  rw [show (0#32 : BitVec 32) = BitVec.ofNat 32 0 from rfl]
  unfold Fill.nt
  by_cases h : 0 < gn gs i.val
  · rw [if_pos h]
    have hc : IntOp.cmpi .sgt (BitVec.ofNat 32 (gn gs i.val)) (BitVec.ofNat 32 0) = 1#1 := by
      rw [StableHlo.Predicate.sgt_iff_toNat] <;> simp only [BitVec.toNat_ofNat] <;> omega
    rw [hc, show ∀ a b : BitVec 32, Scalar.select (1#1) a b = a from fun _ _ => rfl]
    have hL : lastT gs (ix1 i) = BitVec.ofNat 32 ((Fill.S (gn gs) i.val + gn gs i.val - 1) / 512) := by
      refine pyDiv_ap _ _ _ _ ?_ rfl (by omega) (by decide) (by decide)
      rw [subi_ap, ends_at, k16_at, h3, show (1#32 : BitVec 32) = BitVec.ofNat 32 1 from rfl, word_sub (by omega)]
    rw [addi_ap, subi_ap, hL, firstT_at hS, k16_at, show (1#32 : BitVec 32) = BitVec.ofNat 32 1 from rfl, word_sub (Nat.div_le_div_right (by omega)), BitVec.ofNat_add]
  · rw [if_neg h]
    have h0 : gn gs i.val = 0 := by omega
    rw [h0]
    rfl

theorem cum_at (i : Fin 16) : cum gs (ix1 i) = BitVec.ofNat 32 (Fill.B (gn gs) (i.val + 1)) := by
  unfold cum csum
  rw [cumsum1 (N := 16) (Nm1 := 15) rfl (tilesN gs) (Fill.nt (gn gs)) (tilesN_at hS) _ rfl, sum_range _ (Fill.B (gn gs)) rfl fun _ => rfl]

theorem items_at (t : Fin 47) : items gs (ix1 t) = BitVec.ofNat 32 (Fill.item (gn gs) t.val) := by
  have hp := Fill.B16_pos hS
  have hl := Fill.B16_le hS
  have e : extractStridedSlice S1 ![15] (cum gs) slices_S16_S1_15 (ix1 0) = BitVec.ofNat 32 (Fill.B (gn gs) 16) := by
    rw [slice1 (m := 16) (n := 1) 15 (cum gs) _ 0 (by decide)]
    exact cum_at hS 15
  unfold items itemsOf
  generalize extractStridedSlice S1 ![15] (cum gs) slices_S16_S1_15 = v at e
  rw [minsi_bound, word_of_one, e, show (1#32 : BitVec 32) = BitVec.ofNat 32 1 from rfl, word_sub (by omega)]
  have ht := t.isLt
  have := StableHlo.Predicate.slt_ofNat_iff t.val (Fill.B (gn gs) 16 - 1) (by omega) (by omega)
  unfold IntOp.minsi Fill.item
  split
  · rw [Nat.min_eq_left]; simp_all; omega
  · rw [Nat.min_eq_right]; simp_all

theorem group_at (t : Fin 47) : group gs (ix1 t) = BitVec.ofNat 32 (Fill.grp (gn gs) t.val) := by
  have hl := Fill.B16_le hS
  have hp := Fill.B16_pos hS
  unfold group groupOf Fill.grp
  refine reduce_count (n := 47) (m := 16) (by decide) _ _ _ _ t _ fun q => ?_
  rw [cmpi_at, bcRows, bcCols, show itemsOf (cum gs) = items gs from rfl, items_at hS, cum_at hS]
  have hq := Fill.B_mono (g := gn gs) (show q.val + 1 ≤ 16 from q.isLt)
  have hi : Fill.item (gn gs) t.val < 47 := by unfold Fill.item; omega
  rw [StableHlo.Predicate.sge_iff_toNat] <;> simp only [BitVec.toNat_ofNat] <;> omega

theorem wrapped_at (t : Fin 47) : wrapped (group gs) (ix2 t (0 : Fin 1)) = BitVec.ofNat 32 (Fill.grp (gn gs) t.val) := by
  have hg := (Fill.grp_spec hS t.val).1
  unfold wrapped
  rw [bcCol, select_at, cmpi_at, k47_at, group_at hS,
    wrap_of_lt _ _ (by rw [BitVec.toNat_ofNat]; omega)]

theorem tile_at (t : Fin 47) : tile gs (ix1 t) = BitVec.ofNat 32 (Fill.tile (gn gs) t.val) := by
  obtain ⟨hg, h0, h1⟩ := Fill.grp_spec hS t.val
  unfold tile tileOf
  rw [show groupOf (cum gs) = group gs from rfl, show itemsOf (cum gs) = items gs from rfl, subi_ap, addi_ap,
    gather_take1 (N := 16) (n := 47) _ rfl rfl rfl rfl (firstT gs) (wrapped (group gs)) t ⟨_, hg⟩ (wrapped_at hS t) (by decide),
    gather_take1 (N := 16) (n := 47) _ rfl rfl rfl rfl (subi (cum gs) (tilesN gs)) (wrapped (group gs)) t ⟨_, hg⟩ (wrapped_at hS t) (by decide),
    subi_ap, firstT_at hS, items_at hS, cum_at hS, tilesN_at hS]
  have h2 : Fill.B (gn gs) (Fill.grp (gn gs) t.val + 1) = Fill.B (gn gs) (Fill.grp (gn gs) t.val) + Fill.nt (gn gs) (Fill.grp (gn gs) t.val) := rfl
  show _ + _ - (BitVec.ofNat 32 (Fill.B (gn gs) (Fill.grp (gn gs) t.val + 1)) - BitVec.ofNat 32 (Fill.nt (gn gs) (Fill.grp (gn gs) t.val))) = _
  rw [h2, word_sub (Nat.le_add_left _ _), Nat.add_sub_cancel, ← BitVec.ofNat_add]
  unfold Fill.tile
  rw [word_sub (by omega)]

end Cert.Tables

end
-- ==== Proof.Pre.lean ====
/- What the precondition says: the group sizes fill the rows. -/
module

public import proofs.«01_k».proof.Proof.Gen.Pre_groups_fill
public import proofs.«01_k».proof.Proof.Tables

@[expose] public section

set_option maxRecDepth 16384

noncomputable section

namespace Cert.Pre

open Idealize.ShloMosaic Idealize.ShloMosaic.Routing Idealize.ShloMosaic.ValueIdx Idealize.ShloMosaic.WordCmp Cert.KernelIdeal Cert.KernelIdeal.Gen

theorem both_one (a b : BitVec 1) (h : IntOp.andi a b = 1#1) : a = 1#1 ∧ b = 1#1 := by
  revert a b; decide

theorem eq_of_cmpi (a b : BitVec 32) (h : IntOp.cmpi .eq a b = 1#1) : a = b := by
  by_contra hc
  unfold IntOp.cmpi at h
  have h' : BitVec.ofBool (a == b) = 1#1 := h
  rw [beq_eq_false_iff_ne.mpr hc] at h'
  exact absurd h' (by decide)

theorem word_range (w : BitVec 32) (h : IntOp.andi (IntOp.cmpi .sge w 0#32) (IntOp.cmpi .sle w 16384#32) = 1#1) : w.toNat ≤ 16384 := by
  obtain ⟨h1, h2⟩ := both_one _ _ h
  have e1 : (0#32).sle w = true := by
    unfold IntOp.cmpi at h1
    cases hb : (0#32).sle w
    · simp [hb] at h1
    · rfl
  have e2 : w.sle 16384#32 = true := by
    unfold IntOp.cmpi at h2
    cases hb : w.sle 16384#32
    · simp [hb] at h2
    · rfl
  rw [BitVec.sle_eq_decide, decide_eq_true_eq] at e1 e2
  rw [show (0#32 : BitVec 32).toInt = 0 from by decide] at e1
  rw [show (16384#32 : BitVec 32).toInt = 16384 from by decide] at e2
  rw [BitVec.toInt_eq_toNat_cond] at e1 e2
  have := w.isLt
  split at e1 <;> omega

/-- The three comparisons on the group sizes, read back. -/
theorem fill_of (gs : IVec S16 32) (hb : S_.BroadcastsInDim S16 (![] : Fin 0 → Fin S16.rank)) (hr : S16.ReducesTo [0] S_) (hu : 0 < S_.numel)
    (h1 : Host.reduce IntOp.andi (andi (cmpi .sge gs (broadcastInDim S16 ![] hb (constantI S_ 32 0#32)))
      (cmpi .sle gs (broadcastInDim S16 ![] hb (constantI S_ 32 16384#32)))) (constantI S_ 1 1#1) hr hu ValueIdx.ix0 = 1#1)
    (h2 : Host.reduce IntOp.addi gs (constantI S_ 32 0#32) hr hu ValueIdx.ix0 = 16384#32) :
    Fill.S (Tables.gn gs) 16 = 16384 := by
  haveI : Subsingleton S_.Idx := ⟨fun a b => funext fun k => k.elim0⟩
  have hle : ∀ i : Fin 16, Tables.gn gs i.val ≤ 16384 := fun i => by
    have h := Host.reduce_andi_all _ _ _ _ _ h1 (ix1 i)
    have h' : IntOp.andi (IntOp.cmpi .sge (gs (ix1 i)) 0#32) (IntOp.cmpi .sle (gs (ix1 i)) 16384#32) = 1#1 := h
    unfold Tables.gn
    rw [dif_pos i.isLt]
    have e : gs (ix1 ⟨i.val, i.isLt⟩) = gs (ix1 i) := rfl
    rw [e]
    revert h'
    generalize gs (ix1 i) = w
    intro h'
    exact word_range w h'
  rw [reduce_sum (N := 16) gs (Tables.gn gs) (Tables.gs_at (gs := gs)), Tables.sum_range _ (Fill.S (Tables.gn gs)) rfl fun _ => rfl] at h2
  have hb : ∀ n, n ≤ 16 → Fill.S (Tables.gn gs) n ≤ n * 16384 := by
    intro n
    induction n with
    | zero => intro _; exact Nat.le_refl _
    | succ k ih =>
      intro hk
      have := ih (by omega)
      have h3 : Tables.gn gs k ≤ 16384 := hle ⟨k, by omega⟩
      show Fill.S (Tables.gn gs) k + Tables.gn gs k ≤ _
      omega
  have h4 := hb 16 (Nat.le_refl _)
  have h5 := congrArg BitVec.toNat h2
  simp only [BitVec.toNat_ofNat] at h5
  omega

theorem fill_of_pre {F : FTy → Type} [FloatOps F] {a0 : FVec F S16384x2048 .bf16} {gs : IVec S16 32} {a2 : FVec F S16x2048x2048 .fp8e4m3} {a3 : FVec F S16x16x16 .f32}
    (h : Cert.Pre_groups_fill.fn (F := F) a0 gs a2 a3 = fun _ => 1#1) : Fill.S (Tables.gn gs) 16 = 16384 := by
  have h0 := both_one _ _ (congrFun h ValueIdx.ix0)
  refine fill_of gs _ _ _ h0.1 ?_
  have h2 : IntOp.cmpi .eq _ _ = 1#1 := h0.2
  exact eq_of_cmpi _ _ h2

end Cert.Pre

end
-- ==== Proof.PreFinite.lean ====
/- What the precondition of the value claim says: the group sizes fill the rows, the tokens are finite. -/
module

public import proofs.«01_k».proof.Proof.Gen.Pre_groups_fill_tokens_finite
public import proofs.«01_k».proof.Proof.Pre

@[expose] public section

set_option maxRecDepth 16384

noncomputable section

namespace Cert.Pre

open Idealize.ShloMosaic Idealize.ShloMosaic.Routing Idealize.ShloMosaic.ValueIdx Idealize.ShloMosaic.WordCmp Cert.KernelIdeal Cert.KernelIdeal.Gen

theorem fill_of_pre' {F : FTy → Type} [FloatOps F] {a0 : FVec F S16384x2048 .bf16} {gs : IVec S16 32} {a2 : FVec F S16x2048x2048 .fp8e4m3} {a3 : FVec F S16x16x16 .f32}
    (h : Cert.Pre_groups_fill_tokens_finite.fn (F := F) a0 gs a2 a3 = fun _ => 1#1) :
    Fill.S (Tables.gn gs) 16 = 16384 ∧ ∀ i, FloatOps.cmpf .ole (Host.absf (extf .f32 a0 (by decide)) i) (FloatOps.ofBits (F := F) .f32 0x7F7F0000#32) = 1#1 := by
  have h00 := both_one _ _ (congrFun h ValueIdx.ix0)
  have h0 := both_one _ _ h00.1
  refine ⟨fill_of gs _ _ _ h0.1 ?_, fun i => ?_⟩
  · have h2 : IntOp.cmpi .eq _ _ = 1#1 := h0.2
    exact eq_of_cmpi _ _ h2
  · haveI : Subsingleton S_.Idx := ⟨fun a b => funext fun k => k.elim0⟩
    exact Host.reduce_andi_all _ _ _ _ _ h00.2 i

end Cert.Pre

end
-- ==== Proof.IdealPoints.lean ====
/- TensorCore pallas_calls on their static grids — per window, at which points the pipeline fetches it and at
   which it writes it back (`Gen.fetchK_W`, `Gen.flushK_W`), in closed form, proved from the index map's shape
   where the generator reads it (each block index a grid coordinate or a constant) and decided over the grid
   otherwise; the current staging memrefs at a point (`Gen.stK_W`) and the kernel body as the pipeline calls it
   there (`Gen.bodyAtK`). What a certificate's
   `Dat.before` lemmas and body obligation take (Lib/Pipeline/Frame.lean `Dat.before_out_reset` /
   `before_out_acc`; FrameBody.lean `Dat.before_in_eq_fetched` needs none of it). DO NOT EDIT. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__kernel (grid0.coords t) (Memref.whole main_v25) (Memref.isWhole_whole _) (Memref.whole main_v42) (Memref.isWhole_whole _) (Memref.whole main_v1) (Memref.isWhole_whole _) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

end Cert.KernelIdeal.Gen

end
-- ==== Proof.IdealRuns.lean ====
/- GENERATED, UNTRUSTED: what the runs of `proofs.«01_k».proof.KernelIdeal`'s
   frame certificate share — the frame kit (`Gen.hmain`, `Gen.V`, `Gen.iblk`, `Gen.frame_of`) and everything the runs
   are stated over (the body's branch conditions in closed form over the points; where its windows are idle; the staging and
   scratch memrefs; side conditions assumed, `Gen.Hyps`; a ring's names and canonical forms) —, imported by the
   first case's run (Frame/Run<κ>.lean: each imports the one before it) and, through the last, by the Frame module
   (Frame.lean), which holds the rest of the certificate. DO NOT EDIT. -/
module

public import proofs.«01_k».proof.Proof.Gen.KernelIdeal.Launch
public import proofs.«01_k».proof.Proof.Gen.KernelIdeal.Skeleton
public import proofs.«01_k».proof.Proof.IdealPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S47 .i32 := Memref.whole main_v25
abbrev htbM0_0 : tbM0_0.IsWhole := Memref.isWhole_whole _
abbrev tbM0_1 : Memref sig .tc .smem S47 .i32 := Memref.whole main_v42
abbrev htbM0_1 : tbM0_1.IsWhole := Memref.isWhole_whole _
abbrev tbM0_2 : Memref sig .tc .smem S16 .i32 := Memref.whole main_v1
abbrev htbM0_2 : tbM0_2.IsWhole := Memref.isWhole_whole _
abbrev tbM0_3 : Memref sig .tc .smem S16 .i32 := Memref.whole main_v0
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      (Pipeline.RDat.FramePost.arr_in h c 2 rfl).trans ((hA c 2).trans (V_main_arg3 m c))⟩) h

/-! ## The body's branch conditions -/

/-- The condition of the body's `scf.if` 0: over WORDS the body reads from its tables or input SMEM windows
    (`v3`, `v7`), so no function of the point — a case variable: a hypothesis of each run, a `by_cases`
    of the obligation and an `if` of `outsAt`, stated over the argument blocks' words there. -/
abbrev cond0_0 (i : grid0.Coords) (v3 : BitVec 32) (v7 : BitVec 32) : Prop := (Scalar.cmpi .ne (Scalar.extui (Scalar.ori (Scalar.cmpi .eq (BitVec.ofNat 32 (i 0).val) 0#32) (Scalar.cmpi .ne v3 v7))) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x2048 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x16x16 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x2048 .bf16 := spec0_3.stage ((cfgM m hO).slots t 3)
abbrev hs0_3 (hO : Ok m) (t : Fin (cfgM m hO).N) : (ms0_3 m hO t).IsWhole := hstage0_3 (((cfgM m hO).slots t 3).cast nbuf0_3)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S47) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S47) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S47) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S512x2048 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.IdealRunA.lean ====
module

public import proofs.«01_k».proof.Proof.IdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3336000 in
/-- The body's triple when its `scf.if` is taken: the scratch is refilled. The output window is found at `x3` and the scratch at `x4`; what the body
    leaves in the two is the witness. -/
def kernelRun0_A (c : Dev nD) (i : grid0.Coords) (arg5 : Memref sig .tc .vmem S512x2048 .bf16) (harg5 : arg5.IsWhole) (arg6 : Memref sig .tc .vmem S1x2048x2048 .fp8e4m3) (harg6 : arg6.IsWhole) (arg7 : Memref sig .tc .vmem S1x16x16 .f32) (harg7 : arg7.IsWhole) (arg8 : Memref sig .tc .vmem S512x2048 .bf16) (harg8 : arg8.IsWhole) (arg9 : Memref sig .tc .vmem S512x2048 .bf16) (harg9 : arg9.IsWhole)
    (x0 : Vec F S512x2048 .bf16) (x1 : Vec F S1x2048x2048 .fp8e4m3) (x2 : Vec F S1x16x16 .f32) (x3 x4 : Vec F S512x2048 .bf16) (xt0 : TbBuf0 (F := F) c tbM0_0) (xt1 : TbBuf0 (F := F) c tbM0_1) (xt2 : TbBuf0 (F := F) c tbM0_2) (xt3 : TbBuf0 (F := F) c tbM0_3) (hc0 : cond0_0 i (tbM0_1.view.readAt (Elt F) (Rect.unit (s := S47) (k0_off1 i) S1.size (k0_off1_inb i)).toLoadRect xt1 (Shape.Idx.first (numel1_S1.symm ▸ Nat.one_pos))) (tbM0_1.view.readAt (Elt F) (Rect.unit (s := S47) (k0_off2 i) S1.size (k0_off2_inb i)).toLoadRect xt1 (Shape.Idx.first (numel1_S1.symm ▸ Nat.one_pos)))) (k0_hw1 : k0_chk1 (tbM0_0.view.readAt (Elt F) (Rect.unit (s := S47) (k0_off1 i) S1.size (k0_off1_inb i)).toLoadRect xt0 (Shape.Idx.first (numel1_S1.symm ▸ Nat.one_pos)))) :
      { p : Vec F S512x2048 .bf16 × Vec F S512x2048 .bf16 //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare p.1 ∗ owns (c : Thread nD τ) arg9 fullShare p.2 ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__kernel i tbM0_0 htbM0_0 tbM0_1 htbM0_1 tbM0_2 htbM0_2 tbM0_3 htbM0_3 arg5 harg5 arg6 harg6 arg7 harg7 arg8 harg8 arg9 harg9) K } := by
    refine ⟨⟨?_, ?_⟩, ?_⟩
    rotate_left 2
    intro E K
    simp only [cc0__kernel_eq_skeleton]; unfold cc0__kernel_skel
    simp only [k0_part84_eq_skeleton, k0_part20_eq_skeleton, k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f0, %hf0, H0⟩, ⟨%f1, %hf1, H1⟩, ⟨%f2, %hf2, H2⟩, ⟨%f3, %hf3, H3⟩, ⟨%f4, %hf4, HS0⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4
    sl_exec (disch := first | sl_exact hc0 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; swap; · iexact H3
      ipureintro; rfl
    isplitl [HS0]
    · iexists _; isplitr; swap; · iexact HS0
      ipureintro; rfl
    isplitl [HT0]; · iexact HT0
    isplitl [HT1]; · iexact HT1
    isplitl [HT2]; · iexact HT2
    iexact HT3

end Cert.KernelIdeal.Gen

end
-- ==== Proof.IdealRunB.lean ====
module

public import proofs.«01_k».proof.Proof.IdealRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2792000 in
/-- The body's triple when its `scf.if` is not taken: the scratch is kept. The output window is found at `x3` and the scratch at `x4`; what the body
    leaves in the two is the witness. -/
def kernelRun0_B (c : Dev nD) (i : grid0.Coords) (arg5 : Memref sig .tc .vmem S512x2048 .bf16) (harg5 : arg5.IsWhole) (arg6 : Memref sig .tc .vmem S1x2048x2048 .fp8e4m3) (harg6 : arg6.IsWhole) (arg7 : Memref sig .tc .vmem S1x16x16 .f32) (harg7 : arg7.IsWhole) (arg8 : Memref sig .tc .vmem S512x2048 .bf16) (harg8 : arg8.IsWhole) (arg9 : Memref sig .tc .vmem S512x2048 .bf16) (harg9 : arg9.IsWhole)
    (x0 : Vec F S512x2048 .bf16) (x1 : Vec F S1x2048x2048 .fp8e4m3) (x2 : Vec F S1x16x16 .f32) (x3 x4 : Vec F S512x2048 .bf16) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_1.view.readAt (Elt F) (Rect.unit (s := S47) (k0_off1 i) S1.size (k0_off1_inb i)).toLoadRect xt1 (Shape.Idx.first (numel1_S1.symm ▸ Nat.one_pos))) (tbM0_1.view.readAt (Elt F) (Rect.unit (s := S47) (k0_off2 i) S1.size (k0_off2_inb i)).toLoadRect xt1 (Shape.Idx.first (numel1_S1.symm ▸ Nat.one_pos)))) (k0_hw1 : k0_chk1 (tbM0_0.view.readAt (Elt F) (Rect.unit (s := S47) (k0_off1 i) S1.size (k0_off1_inb i)).toLoadRect xt0 (Shape.Idx.first (numel1_S1.symm ▸ Nat.one_pos)))) :
      { p : Vec F S512x2048 .bf16 × Vec F S512x2048 .bf16 //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare p.1 ∗ owns (c : Thread nD τ) arg9 fullShare p.2 ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__kernel i tbM0_0 htbM0_0 tbM0_1 htbM0_1 tbM0_2 htbM0_2 tbM0_3 htbM0_3 arg5 harg5 arg6 harg6 arg7 harg7 arg8 harg8 arg9 harg9) K } := by
    refine ⟨⟨?_, ?_⟩, ?_⟩
    rotate_left 2
    intro E K
    simp only [cc0__kernel_eq_skeleton]; unfold cc0__kernel_skel
    simp only [k0_part84_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f0, %hf0, H0⟩, ⟨%f1, %hf1, H1⟩, ⟨%f2, %hf2, H2⟩, ⟨%f3, %hf3, H3⟩, ⟨%f4, %hf4, HS0⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4
    sl_exec (disch := first | sl_exact hc0 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; swap; · iexact H3
      ipureintro; rfl
    isplitl [HS0]
    · iexists _; isplitr; swap; · iexact HS0
      ipureintro; rfl
    isplitl [HT0]; · iexact HT0
    isplitl [HT1]; · iexact HT1
    isplitl [HT2]; · iexact HT2
    iexact HT3

end Cert.KernelIdeal.Gen

end
-- ==== Proof.RunValue.lean ====
/- What one run of the body leaves: the quantised tokens in the scratch, the masked products in the output window. -/
module

public import proofs.«01_k».proof.Proof.IdealRunA
public import proofs.«01_k».proof.Proof.IdealRunB
public import Idealize.ShloMosaic.Lib.Pipeline.Value
public import Idealize.ShloMosaic.Lib.Tactic.Stretches

@[expose] public section

set_option maxRecDepth 16384

noncomputable section

namespace Cert.KernelIdeal.Gen

open Idealize.ShloMosaic Idealize.ShloMosaic.TcCoe Idealize.ShloMosaic.Tactic

variable {F : FTy → Type} [FloatOps F]

/-- The quantised and dequantised values of one block of 128 columns. -/
def qd (v : Vec F S512x128 .bf16) : FVec F S512x128 .bf16 := k0_pay7 (k0_pay5 v) (k0_pay6 v)

theorem col_inb (k : Nat) (h : k < 16) : ∀ a : Fin S512x2048.rank, (![0, 128 * k] : Fin 2 → Nat) a + (![512, 128] : Fin 2 → Nat) a ≤ S512x2048.size a := by
  intro a
  match a with
  | ⟨0, _⟩ => show 0 + 512 ≤ 512; omega
  | ⟨1, _⟩ => show 128 * k + 128 ≤ 2048; omega

theorem wide_inb (j : Nat) (h : j < 8) : ∀ a : Fin S512x2048.rank, (![0, 256 * j] : Fin 2 → Nat) a + (![512, 256] : Fin 2 → Nat) a ≤ S512x2048.size a := by
  intro a
  match a with
  | ⟨0, _⟩ => show 0 + 512 ≤ 512; omega
  | ⟨1, _⟩ => show 256 * j + 256 ≤ 2048; omega

theorem w_inb (k n : Nat) (h : k < 16) (hn : n < 16) : ∀ a : Fin S1x2048x2048.rank, (![0, 128 * k, 128 * n] : Fin 3 → Nat) a + (![1, 128, 128] : Fin 3 → Nat) a ≤ S1x2048x2048.size a := by
  intro a
  match a with
  | ⟨0, _⟩ => show 0 + 1 ≤ 1; omega
  | ⟨1, _⟩ => show 128 * k + 128 ≤ 2048; omega
  | ⟨2, _⟩ => show 128 * n + 128 ≤ 2048; omega

theorem s_inb (k n : Nat) (h : k < 16) (hn : n < 16) : ∀ a : Fin S1x16x16.rank, (![0, k, n] : Fin 3 → Nat) a + (![1, 1, 1] : Fin 3 → Nat) a ≤ S1x16x16.size a := by
  intro a
  match a with
  | ⟨0, _⟩ => show 0 + 1 ≤ 1; omega
  | ⟨1, _⟩ => show k + 1 ≤ 16; omega
  | ⟨2, _⟩ => show n + 1 ≤ 16; omega

theorem y1_lt (y : S512x2048.Idx) : (y 1).val < 2048 := (y 1).isLt

/-- The quantised and dequantised tokens of a tile. -/
def lhsQ (x : Vec F S512x2048 .bf16) : Vec F S512x2048 .bf16 := fun y =>
  qd (View.ld x (Rect.unit (s := S512x2048) ![0, 128 * ((y 1).val / 128)] ![512, 128] (col_inb _ (by have := y1_lt y; omega))))
    (fun a => match a with
      | ⟨0, _⟩ => y 0
      | ⟨1, _⟩ => ⟨(y 1).val % 128, Nat.mod_lt _ (by omega)⟩)

/-- One block of 128 rows and 256 columns of the scaled weights. -/
def rblk (x1 : Vec F S1x2048x2048 .fp8e4m3) (x2 : Vec F S1x16x16 .f32) (k j : Nat) (hk : k < 16) (hj : j < 8) : FVec F S128x256 .bf16 :=
  k0_pay1 (View.ld x2 (Rect.unit (s := S1x16x16) ![0, k, 2 * j] ![1, 1, 1] (s_inb _ _ hk (by omega))))
    (View.ld x1 (Rect.unit (s := S1x2048x2048) ![0, 128 * k, 128 * (2 * j)] ![1, 128, 128] (w_inb _ _ hk (by omega))))
    (View.ld x2 (Rect.unit (s := S1x16x16) ![0, k, 2 * j + 1] ![1, 1, 1] (s_inb _ _ hk (by omega))))
    (View.ld x1 (Rect.unit (s := S1x2048x2048) ![0, 128 * k, 128 * (2 * j + 1)] ![1, 128, 128] (w_inb _ _ hk (by omega))))

/-- The 256 columns number `j` of the scaled weights. -/
def rhsQ (x1 : Vec F S1x2048x2048 .fp8e4m3) (x2 : Vec F S1x16x16 .f32) (j : Nat) (hj : j < 8) : FVec F S2048x256 .bf16 :=
  concatenate S2048x256 0 [⟨S128x256, rblk x1 x2 0 j (by omega) hj⟩, ⟨S128x256, rblk x1 x2 1 j (by omega) hj⟩, ⟨S128x256, rblk x1 x2 2 j (by omega) hj⟩, ⟨S128x256, rblk x1 x2 3 j (by omega) hj⟩, ⟨S128x256, rblk x1 x2 4 j (by omega) hj⟩, ⟨S128x256, rblk x1 x2 5 j (by omega) hj⟩, ⟨S128x256, rblk x1 x2 6 j (by omega) hj⟩, ⟨S128x256, rblk x1 x2 7 j (by omega) hj⟩, ⟨S128x256, rblk x1 x2 8 j (by omega) hj⟩, ⟨S128x256, rblk x1 x2 9 j (by omega) hj⟩, ⟨S128x256, rblk x1 x2 10 j (by omega) hj⟩, ⟨S128x256, rblk x1 x2 11 j (by omega) hj⟩, ⟨S128x256, rblk x1 x2 12 j (by omega) hj⟩, ⟨S128x256, rblk x1 x2 13 j (by omega) hj⟩, ⟨S128x256, rblk x1 x2 14 j (by omega) hj⟩, ⟨S128x256, rblk x1 x2 15 j (by omega) hj⟩] concatenates_S128x256_S128x256_S128x256_S128x256_S128x256_S128x256_S128x256_S128x256_S128x256_S128x256_S128x256_S128x256_S128x256_S128x256_S128x256_S128x256_S2048x256_d0

/-- What the body leaves in the output window, of the mask, the weights, their scales, the tokens and the old contents. -/
def outQ (mask : IVec S512x256 1) (x1 : Vec F S1x2048x2048 .fp8e4m3) (x2 : Vec F S1x16x16 .f32) (lhs old : Vec F S512x2048 .bf16) : Vec F S512x2048 .bf16 := fun y =>
  k0_pay2 mask (rhsQ x1 x2 ((y 1).val / 256) (by have := y1_lt y; omega)) lhs
    (View.ld old (Rect.unit (s := S512x2048) ![0, 256 * ((y 1).val / 256)] ![512, 256] (wide_inb _ (by have := y1_lt y; omega))))
    (fun a => match a with
      | ⟨0, _⟩ => y 0
      | ⟨1, _⟩ => ⟨(y 1).val % 256, Nat.mod_lt _ (by omega)⟩)

theorem lhsQ_emb (x : Vec F S512x2048 .bf16) (k : Nat) (hk : k < 16) (z : S512x128.Idx) :
    qd (View.ld x (Rect.unit (s := S512x2048) ![0, 128 * k] ![512, 128] (col_inb k hk))) z
      = lhsQ x ((Rect.unit (s := S512x2048) ![0, 128 * k] ![512, 128] (col_inb k hk)).emb z) := by
  have hz : (z 1).val < 128 := (z 1).isLt
  have he : (((Rect.unit (s := S512x2048) ![0, 128 * k] ![512, 128] (col_inb k hk)).emb z) 1).val = 128 * k + (z 1).val := by
    rw [Rect.emb_apply]; show 128 * k + 1 * (z 1).val = _; omega
  have he0 : (((Rect.unit (s := S512x2048) ![0, 128 * k] ![512, 128] (col_inb k hk)).emb z) 0).val = (z 0).val := by
    rw [Rect.emb_apply]; show 0 + 1 * (z 0).val = _; omega
  generalize (Rect.unit (s := S512x2048) ![0, 128 * k] ![512, 128] (col_inb k hk)).emb z = y at he he0
  have hq : k = (y 1).val / 128 := by omega
  subst hq
  unfold lhsQ
  refine congrArg _ (funext fun a => ?_)
  match a with
  | ⟨0, _⟩ => exact Fin.ext he0.symm
  | ⟨1, _⟩ => exact Fin.ext (by show (z 1).val = (y 1).val % 128; omega)

theorem outQ_emb (mask : IVec S512x256 1) (x1 : Vec F S1x2048x2048 .fp8e4m3) (x2 : Vec F S1x16x16 .f32) (lhs old : Vec F S512x2048 .bf16)
    (j : Nat) (hj : j < 8) (z : S512x256.Idx) :
    k0_pay2 mask (rhsQ x1 x2 j hj) lhs (View.ld old (Rect.unit (s := S512x2048) ![0, 256 * j] ![512, 256] (wide_inb j hj))) z
      = outQ mask x1 x2 lhs old ((Rect.unit (s := S512x2048) ![0, 256 * j] ![512, 256] (wide_inb j hj)).emb z) := by
  have hz : (z 1).val < 256 := (z 1).isLt
  have he : (((Rect.unit (s := S512x2048) ![0, 256 * j] ![512, 256] (wide_inb j hj)).emb z) 1).val = 256 * j + (z 1).val := by
    rw [Rect.emb_apply]; show 256 * j + 1 * (z 1).val = _; omega
  have he0 : (((Rect.unit (s := S512x2048) ![0, 256 * j] ![512, 256] (wide_inb j hj)).emb z) 0).val = (z 0).val := by
    rw [Rect.emb_apply]; show 0 + 1 * (z 0).val = _; omega
  generalize (Rect.unit (s := S512x2048) ![0, 256 * j] ![512, 256] (wide_inb j hj)).emb z = y at he he0
  have hq : j = (y 1).val / 256 := by omega
  subst hq
  unfold outQ
  refine congrArg _ (funext fun a => ?_)
  match a with
  | ⟨0, _⟩ => exact Fin.ext he0.symm
  | ⟨1, _⟩ => exact Fin.ext (by show (z 1).val = (y 1).val % 256; omega)

variable (c : Dev nD) (i : grid0.Coords) (arg5 : Memref sig .tc .vmem S512x2048 .bf16) (h5 : arg5.IsWhole) (arg6 : Memref sig .tc .vmem S1x2048x2048 .fp8e4m3) (h6 : arg6.IsWhole)
  (arg7 : Memref sig .tc .vmem S1x16x16 .f32) (h7 : arg7.IsWhole) (arg8 : Memref sig .tc .vmem S512x2048 .bf16) (h8 : arg8.IsWhole) (arg9 : Memref sig .tc .vmem S512x2048 .bf16) (h9 : arg9.IsWhole)
  (x0 : Vec F S512x2048 .bf16) (x1 : Vec F S1x2048x2048 .fp8e4m3) (x2 : Vec F S1x16x16 .f32) (x3 x4 : Vec F S512x2048 .bf16)
  (xt0 : TbBuf0 (F := F) c tbM0_0) (xt1 : TbBuf0 (F := F) c tbM0_1) (xt2 : TbBuf0 (F := F) c tbM0_2) (xt3 : TbBuf0 (F := F) c tbM0_3)

theorem scratch_pieces : ∀ p ∈ (kernelRun0_A.sl.HS0_16 c arg5 h5 x0), ∀ z, p.2 z = lhsQ x0 (p.1.emb z) := by
  have e := h5.read_unread (Val := Elt F) x0
  sl_open_run
  simp only [View.readAt_eq_ld, e]
  simp only [List.forall_mem_cons, List.not_mem_nil, false_imp_iff, implies_true, and_true]
  refine ⟨?_, ?_, ?_, ?_, ?_, ?_, ?_, ?_, ?_, ?_, ?_, ?_, ?_, ?_, ?_, ?_⟩
  · intro z
    refine Eq.trans ?_ (lhsQ_emb x0 15 (by omega) z)
    sl_open_pay; rfl
  · intro z
    refine Eq.trans ?_ (lhsQ_emb x0 14 (by omega) z)
    sl_open_pay; rfl
  · intro z
    refine Eq.trans ?_ (lhsQ_emb x0 13 (by omega) z)
    sl_open_pay; rfl
  · intro z
    refine Eq.trans ?_ (lhsQ_emb x0 12 (by omega) z)
    sl_open_pay; rfl
  · intro z
    refine Eq.trans ?_ (lhsQ_emb x0 11 (by omega) z)
    sl_open_pay; rfl
  · intro z
    refine Eq.trans ?_ (lhsQ_emb x0 10 (by omega) z)
    sl_open_pay; rfl
  · intro z
    refine Eq.trans ?_ (lhsQ_emb x0 9 (by omega) z)
    sl_open_pay; rfl
  · intro z
    refine Eq.trans ?_ (lhsQ_emb x0 8 (by omega) z)
    sl_open_pay; rfl
  · intro z
    refine Eq.trans ?_ (lhsQ_emb x0 7 (by omega) z)
    sl_open_pay; rfl
  · intro z
    refine Eq.trans ?_ (lhsQ_emb x0 6 (by omega) z)
    sl_open_pay; rfl
  · intro z
    refine Eq.trans ?_ (lhsQ_emb x0 5 (by omega) z)
    sl_open_pay; rfl
  · intro z
    refine Eq.trans ?_ (lhsQ_emb x0 4 (by omega) z)
    sl_open_pay; rfl
  · intro z
    refine Eq.trans ?_ (lhsQ_emb x0 3 (by omega) z)
    sl_open_pay; rfl
  · intro z
    refine Eq.trans ?_ (lhsQ_emb x0 2 (by omega) z)
    sl_open_pay; rfl
  · intro z
    refine Eq.trans ?_ (lhsQ_emb x0 1 (by omega) z)
    sl_open_pay; rfl
  · intro z
    refine Eq.trans ?_ (lhsQ_emb x0 0 (by omega) z)
    sl_open_pay; rfl

theorem scratch_cover : ∀ y, ∃ p ∈ (kernelRun0_A.sl.HS0_16 c arg5 h5 x0), y ∈ p.1.set :=
  View.cover_of_tiledL _ ![512, 128] (by sl_open_run; rfl)

theorem scratch_A hc hw : (kernelRun0_A c i arg5 h5 arg6 h6 arg7 h7 arg8 h8 arg9 h9 x0 x1 x2 x3 x4 xt0 xt1 xt2 xt3 hc hw).1.2 = lhsQ x0 :=
  (View.read_writes_eq_canon (arg9.view) _ (kernelRun0_A.sl.HS0_16 c arg5 h5 x0) (scratch_cover c arg5 h5 x0)).trans
    (funext fun y => View.canon_apply_of_pieces (lhsQ x0) _ (scratch_pieces c arg5 h5 x0) y (scratch_cover c arg5 h5 x0 y))

theorem loaded_A : (arg9.view.readCov (kernelRun0_A.sl.HS0_16 c arg5 h5 x0) (Rect.unit (s := S512x2048) ![0, 0] S512x2048.size inb_S512x2048_S512x2048_0_0).toLoadRect) = lhsQ x0 := by
  refine (View.readCov_eq_canon_ld arg9.view _ _ (scratch_cover c arg5 h5 x0)).trans ?_
  refine (View.ld_unit_zero (S := S512x2048) (off := ![0, 0]) (by funext a; match a with | ⟨0, _⟩ => rfl | ⟨1, _⟩ => rfl) _ _).trans ?_
  exact funext fun y => View.canon_apply_of_pieces (lhsQ x0) _ (scratch_pieces c arg5 h5 x0) y (scratch_cover c arg5 h5 x0 y)

theorem read_writes_of_pieces {sig : RefSig} {κ : Kind} {sp : Space} {s : Shape} {e : EltTy} (v : View sig κ sp s e) (f : v.ty.Contents (Elt F)) (L : List (View.Piece (Elt F) s e))
    (G : s.Idx → Elt F e) (hp : ∀ p ∈ L, ∀ z, p.2 z = G (p.1.emb z)) (hc : ∀ y, ∃ p ∈ L, y ∈ p.1.set) : v.read (Elt F) (v.writes (Elt F) f L) = G :=
  (View.read_writes_eq_canon v f L hc).trans (funext fun y => View.canon_apply_of_pieces G L hp y (hc y))

theorem ld_whole (x : Vec F S512x2048 .bf16) (inb) : View.ld x (Rect.unit (s := S512x2048) ![0, 0] ![512, 2048] inb) = x :=
  View.ld_unit_zero (S := S512x2048) (off := ![0, 0]) (by funext a; match a with | ⟨0, _⟩ => rfl | ⟨1, _⟩ => rfl) _ _

/-- The side condition of the tables' words that the body assumes. -/
abbrev HwQ (c : Dev nD) (i : grid0.Coords) (xt0 : TbBuf0 (F := F) c tbM0_0) : Prop :=
  k0_chk1 (View.readAt (Elt F) tbM0_0.view (Rect.unit (s := S47) (k0_off1 i) S1.size (k0_off1_inb i)).toLoadRect xt0 (Shape.Idx.first (numel1_S1.symm ▸ Nat.one_pos)))

/-- The mask of the rows of the group, as the body computes it of the tables' words. -/
def maskQ (hw : HwQ c i xt0) : IVec S512x256 1 := kernelRun0_A.sl.r_46 c i xt0 xt1 xt2 xt3 hw

set_option maxHeartbeats 1000000 in
theorem out_A hc hw : (kernelRun0_A c i arg5 h5 arg6 h6 arg7 h7 arg8 h8 arg9 h9 x0 x1 x2 x3 x4 xt0 xt1 xt2 xt3 hc hw).1.1
    = outQ (maskQ c i xt0 xt1 xt2 xt3 hw) x1 x2 (lhsQ x0) x3 := by
  have e : outQ (maskQ c i xt0 xt1 xt2 xt3 hw) x1 x2 (lhsQ x0) x3 = outQ (maskQ c i xt0 xt1 xt2 xt3 hw) (arg6.view.read (Elt F) (h6.unread x1)) (arg7.view.read (Elt F) (h7.unread x2))
      (kernelRun0_A.sl.v299 c arg5 h5 arg9 x0) (arg8.view.read (Elt F) (h8.unread x3)) := by
    rw [h6.read_unread, h7.read_unread, h8.read_unread, show kernelRun0_A.sl.v299 c arg5 h5 arg9 x0 = lhsQ x0 from loaded_A c arg5 h5 arg9 x0]
  rw [e]
  unfold kernelRun0_A
  dsimp only
  refine read_writes_of_pieces _ _ _ _ ?_ (View.cover_of_tiledL _ ![512, 256] (by rfl))
  rw [show kernelRun0_A.sl.r_46 c i xt0 xt1 xt2 xt3 hw = maskQ c i xt0 xt1 xt2 xt3 hw from rfl]
  try rw [show kernelRun0_A.sl.v2266 c arg5 h5 arg9 x0 = kernelRun0_A.sl.v299 c arg5 h5 arg9 x0 from rfl]
  generalize kernelRun0_A.sl.v299 c arg5 h5 arg9 x0 = lq
  generalize maskQ c i xt0 xt1 xt2 xt3 hw = mk
  simp only [List.forall_mem_cons, List.not_mem_nil, false_imp_iff, implies_true, and_true]
  refine ⟨?_, ?_, ?_, ?_, ?_, ?_, ?_, ?_⟩
  · intro z
    refine Eq.trans ?_ (outQ_emb _ _ _ _ _ 7 (by omega) z)
    sl_open_run; sl_open_pay; rfl
  · intro z
    refine Eq.trans ?_ (outQ_emb _ _ _ _ _ 6 (by omega) z)
    sl_open_run; sl_open_pay; rfl
  · intro z
    refine Eq.trans ?_ (outQ_emb _ _ _ _ _ 5 (by omega) z)
    sl_open_run; sl_open_pay; rfl
  · intro z
    refine Eq.trans ?_ (outQ_emb _ _ _ _ _ 4 (by omega) z)
    sl_open_run; sl_open_pay; rfl
  · intro z
    refine Eq.trans ?_ (outQ_emb _ _ _ _ _ 3 (by omega) z)
    sl_open_run; sl_open_pay; rfl
  · intro z
    refine Eq.trans ?_ (outQ_emb _ _ _ _ _ 2 (by omega) z)
    sl_open_run; sl_open_pay; rfl
  · intro z
    refine Eq.trans ?_ (outQ_emb _ _ _ _ _ 1 (by omega) z)
    sl_open_run; sl_open_pay; rfl
  · intro z
    refine Eq.trans ?_ (outQ_emb _ _ _ _ _ 0 (by omega) z)
    sl_open_run; sl_open_pay; rfl

set_option maxHeartbeats 1000000 in
theorem out_B hc hw : (kernelRun0_B c i arg5 h5 arg6 h6 arg7 h7 arg8 h8 arg9 h9 x0 x1 x2 x3 x4 xt0 xt1 xt2 xt3 hc hw).1.1
    = outQ (maskQ c i xt0 xt1 xt2 xt3 hw) x1 x2 (x4) x3 := by
  have e : outQ (maskQ c i xt0 xt1 xt2 xt3 hw) x1 x2 (x4) x3 = outQ (maskQ c i xt0 xt1 xt2 xt3 hw) (arg6.view.read (Elt F) (h6.unread x1)) (arg7.view.read (Elt F) (h7.unread x2))
      (View.ld (arg9.view.read (Elt F) (h9.unread x4)) (Rect.unit (s := S512x2048) ![0, 0] ![512, 2048] inb_S512x2048_S512x2048_0_0)) (arg8.view.read (Elt F) (h8.unread x3)) := by
    rw [h6.read_unread, h7.read_unread, h8.read_unread, ld_whole, h9.read_unread]
  rw [e]
  unfold kernelRun0_B
  dsimp only
  refine read_writes_of_pieces _ _ _ _ ?_ (View.cover_of_tiledL _ ![512, 256] (by rfl))
  rw [show kernelRun0_B.sl.r_5 c i xt0 xt1 xt2 xt3 hw = maskQ c i xt0 xt1 xt2 xt3 hw from by unfold maskQ; sl_open_run; rfl]
  generalize maskQ c i xt0 xt1 xt2 xt3 hw = mk
  simp only [List.forall_mem_cons, List.not_mem_nil, false_imp_iff, implies_true, and_true]
  refine ⟨?_, ?_, ?_, ?_, ?_, ?_, ?_, ?_⟩
  · intro z
    refine Eq.trans ?_ (outQ_emb _ _ _ _ _ 7 (by omega) z)
    sl_open_run; sl_open_pay; rfl
  · intro z
    refine Eq.trans ?_ (outQ_emb _ _ _ _ _ 6 (by omega) z)
    sl_open_run; sl_open_pay; rfl
  · intro z
    refine Eq.trans ?_ (outQ_emb _ _ _ _ _ 5 (by omega) z)
    sl_open_run; sl_open_pay; rfl
  · intro z
    refine Eq.trans ?_ (outQ_emb _ _ _ _ _ 4 (by omega) z)
    sl_open_run; sl_open_pay; rfl
  · intro z
    refine Eq.trans ?_ (outQ_emb _ _ _ _ _ 3 (by omega) z)
    sl_open_run; sl_open_pay; rfl
  · intro z
    refine Eq.trans ?_ (outQ_emb _ _ _ _ _ 2 (by omega) z)
    sl_open_run; sl_open_pay; rfl
  · intro z
    refine Eq.trans ?_ (outQ_emb _ _ _ _ _ 1 (by omega) z)
    sl_open_run; sl_open_pay; rfl
  · intro z
    refine Eq.trans ?_ (outQ_emb _ _ _ _ _ 0 (by omega) z)
    sl_open_run; sl_open_pay; rfl

theorem scratch_B hc hw : (kernelRun0_B c i arg5 h5 arg6 h6 arg7 h7 arg8 h8 arg9 h9 x0 x1 x2 x3 x4 xt0 xt1 xt2 xt3 hc hw).1.2 = x4 :=
  h9.read_unread (Val := Elt F) x4

end Cert.KernelIdeal.Gen

end
-- ==== Proof.TabIdeal.lean ====
/- What the host leaves in the kernel's four tables: the functions of the group sizes of Proof/Tables.lean. -/
module

public import proofs.«01_k».proof.Proof.IdealRuns
public import proofs.«01_k».proof.Proof.Tables
public import Idealize.ShloMosaic.Lib.StableHlo.RunRead

@[expose] public section

set_option maxRecDepth 16384

noncomputable section

namespace Cert.KernelIdeal.Gen

open Idealize.ShloMosaic Idealize.ShloMosaic.TcCoe Idealize.ShloMosaic.Tactic Idealize.ShloMosaic.StableHlo

variable {F : FTy → Type} [FloatOps F]
variable (m : (ℓ : Loc nD τ sig) → Buf (Elt F) ℓ)

/-- The group sizes as launched. -/
abbrev gsz : IVec S16 32 := m (((0 : Dev nD) : Thread nD τ).loc main_arg1)

/-! ## Line by line: what each line of host operations leaves, of what it found -/

section
variable (σ : (b : DevRef τ sig) → b.ty.Contents (Elt F))

theorem l0_v0 : StableHlo.after hostOps0 σ (Proc.devRef .tc main_v0) = Tables.csum (σ (Proc.devRef .tc main_arg1)) := by
  after_reads_simp
  all_goals try simp -implicitDefEqProofs only [StableHlo.TRef.toBuf, StableHlo.TRef.ofBuf, cast_cast, cast_eq]
  all_goals rfl

theorem l0_arg1 : StableHlo.after hostOps0 σ (Proc.devRef .tc main_arg1) = σ (Proc.devRef .tc main_arg1) := by
  after_reads_simp

theorem l1_v1 : StableHlo.after hostOps0_1 σ (Proc.devRef .tc main_v1) = subi (σ (Proc.devRef .tc main_v0)) (σ (Proc.devRef .tc main_arg1)) := by
  after_reads_simp
  all_goals try simp -implicitDefEqProofs only [StableHlo.TRef.toBuf, StableHlo.TRef.ofBuf, cast_cast, cast_eq]
  all_goals rfl

theorem l1_c : StableHlo.after hostOps0_1 σ (Proc.devRef .tc main_c) = constantI S_ 32 512#32 := by
  after_reads_simp
  all_goals try simp -implicitDefEqProofs only [StableHlo.TRef.toBuf, StableHlo.TRef.ofBuf, cast_cast, cast_eq]
  all_goals rfl

theorem l1_v0 : StableHlo.after hostOps0_1 σ (Proc.devRef .tc main_v0) = σ (Proc.devRef .tc main_v0) := by
  after_reads_simp

theorem l1_arg1 : StableHlo.after hostOps0_1 σ (Proc.devRef .tc main_arg1) = σ (Proc.devRef .tc main_arg1) := by
  after_reads_simp

theorem l2_v2 : StableHlo.after hostOps0_2 σ (Proc.devRef .tc main_v2) = Routing.pyDiv bcast_S_S16 (σ (Proc.devRef .tc main_v1)) (σ (Proc.devRef .tc main_c)) := by
  after_reads_simp
  all_goals try simp -implicitDefEqProofs only [StableHlo.TRef.toBuf, StableHlo.TRef.ofBuf, cast_cast, cast_eq]
  all_goals rfl

theorem l2_v0 : StableHlo.after hostOps0_2 σ (Proc.devRef .tc main_v0) = σ (Proc.devRef .tc main_v0) := by
  after_reads_simp

theorem l2_v1 : StableHlo.after hostOps0_2 σ (Proc.devRef .tc main_v1) = σ (Proc.devRef .tc main_v1) := by
  after_reads_simp

theorem l2_arg1 : StableHlo.after hostOps0_2 σ (Proc.devRef .tc main_arg1) = σ (Proc.devRef .tc main_arg1) := by
  after_reads_simp

theorem l3_v4 : StableHlo.after hostOps0_3 σ (Proc.devRef .tc main_v4) = cmpi .sgt (σ (Proc.devRef .tc main_arg1)) (Tables.k16 0#32) := by
  after_reads_simp
  all_goals try simp -implicitDefEqProofs only [StableHlo.TRef.toBuf, StableHlo.TRef.ofBuf, cast_cast, cast_eq]
  all_goals rfl

theorem l3_v6 : StableHlo.after hostOps0_3 σ (Proc.devRef .tc main_v6) = subi (σ (Proc.devRef .tc main_v0)) (Tables.k16 1#32) := by
  after_reads_simp
  all_goals try simp -implicitDefEqProofs only [StableHlo.TRef.toBuf, StableHlo.TRef.ofBuf, cast_cast, cast_eq]
  all_goals rfl

theorem l3_c2 : StableHlo.after hostOps0_3 σ (Proc.devRef .tc main_c_2) = constantI S_ 32 512#32 := by
  after_reads_simp
  all_goals try simp -implicitDefEqProofs only [StableHlo.TRef.toBuf, StableHlo.TRef.ofBuf, cast_cast, cast_eq]
  all_goals rfl

theorem l3_v0 : StableHlo.after hostOps0_3 σ (Proc.devRef .tc main_v0) = σ (Proc.devRef .tc main_v0) := by
  after_reads_simp

theorem l3_v1 : StableHlo.after hostOps0_3 σ (Proc.devRef .tc main_v1) = σ (Proc.devRef .tc main_v1) := by
  after_reads_simp

theorem l3_v2 : StableHlo.after hostOps0_3 σ (Proc.devRef .tc main_v2) = σ (Proc.devRef .tc main_v2) := by
  after_reads_simp

theorem l4_v7 : StableHlo.after hostOps0_4 σ (Proc.devRef .tc main_v7) = Routing.pyDiv bcast_S_S16 (σ (Proc.devRef .tc main_v6)) (σ (Proc.devRef .tc main_c_2)) := by
  after_reads_simp
  all_goals try simp -implicitDefEqProofs only [StableHlo.TRef.toBuf, StableHlo.TRef.ofBuf, cast_cast, cast_eq]
  all_goals rfl

theorem l4_v0 : StableHlo.after hostOps0_4 σ (Proc.devRef .tc main_v0) = σ (Proc.devRef .tc main_v0) := by
  after_reads_simp

theorem l4_v1 : StableHlo.after hostOps0_4 σ (Proc.devRef .tc main_v1) = σ (Proc.devRef .tc main_v1) := by
  after_reads_simp

theorem l4_v2 : StableHlo.after hostOps0_4 σ (Proc.devRef .tc main_v2) = σ (Proc.devRef .tc main_v2) := by
  after_reads_simp

theorem l4_v4 : StableHlo.after hostOps0_4 σ (Proc.devRef .tc main_v4) = σ (Proc.devRef .tc main_v4) := by
  after_reads_simp

theorem l5_v10 : StableHlo.after hostOps0_5 σ (Proc.devRef .tc main_v10) = addi (subi (σ (Proc.devRef .tc main_v7)) (σ (Proc.devRef .tc main_v2))) (Tables.k16 1#32) := by
  after_reads_simp
  all_goals try simp -implicitDefEqProofs only [StableHlo.TRef.toBuf, StableHlo.TRef.ofBuf, cast_cast, cast_eq]
  all_goals rfl

theorem l5_c4 : StableHlo.after hostOps0_5 σ (Proc.devRef .tc main_c_4) = constantI S_ 32 0#32 := by
  after_reads_simp
  all_goals try simp -implicitDefEqProofs only [StableHlo.TRef.toBuf, StableHlo.TRef.ofBuf, cast_cast, cast_eq]
  all_goals rfl

theorem l5_v0 : StableHlo.after hostOps0_5 σ (Proc.devRef .tc main_v0) = σ (Proc.devRef .tc main_v0) := by
  after_reads_simp

theorem l5_v1 : StableHlo.after hostOps0_5 σ (Proc.devRef .tc main_v1) = σ (Proc.devRef .tc main_v1) := by
  after_reads_simp

theorem l5_v2 : StableHlo.after hostOps0_5 σ (Proc.devRef .tc main_v2) = σ (Proc.devRef .tc main_v2) := by
  after_reads_simp

theorem l5_v4 : StableHlo.after hostOps0_5 σ (Proc.devRef .tc main_v4) = σ (Proc.devRef .tc main_v4) := by
  after_reads_simp

theorem l6_v11 : StableHlo.after hostOps0_6 σ (Proc.devRef .tc main_v11) = select (σ (Proc.devRef .tc main_v4)) (σ (Proc.devRef .tc main_v10)) (broadcastInDim S16 ![] bcast_S_S16 (σ (Proc.devRef .tc main_c_4))) := by
  after_reads_simp
  all_goals try simp -implicitDefEqProofs only [StableHlo.TRef.toBuf, StableHlo.TRef.ofBuf, cast_cast, cast_eq]
  all_goals rfl

theorem l6_v0 : StableHlo.after hostOps0_6 σ (Proc.devRef .tc main_v0) = σ (Proc.devRef .tc main_v0) := by
  after_reads_simp

theorem l6_v1 : StableHlo.after hostOps0_6 σ (Proc.devRef .tc main_v1) = σ (Proc.devRef .tc main_v1) := by
  after_reads_simp

theorem l6_v2 : StableHlo.after hostOps0_6 σ (Proc.devRef .tc main_v2) = σ (Proc.devRef .tc main_v2) := by
  after_reads_simp

theorem l7_v12 : StableHlo.after hostOps0_7 σ (Proc.devRef .tc main_v12) = Tables.csum (σ (Proc.devRef .tc main_v11)) := by
  after_reads_simp
  all_goals try simp -implicitDefEqProofs only [StableHlo.TRef.toBuf, StableHlo.TRef.ofBuf, cast_cast, cast_eq]
  all_goals rfl

theorem l7_v0 : StableHlo.after hostOps0_7 σ (Proc.devRef .tc main_v0) = σ (Proc.devRef .tc main_v0) := by
  after_reads_simp

theorem l7_v1 : StableHlo.after hostOps0_7 σ (Proc.devRef .tc main_v1) = σ (Proc.devRef .tc main_v1) := by
  after_reads_simp

theorem l7_v2 : StableHlo.after hostOps0_7 σ (Proc.devRef .tc main_v2) = σ (Proc.devRef .tc main_v2) := by
  after_reads_simp

theorem l7_v11 : StableHlo.after hostOps0_7 σ (Proc.devRef .tc main_v11) = σ (Proc.devRef .tc main_v11) := by
  after_reads_simp

theorem l8_v25 : StableHlo.after hostOps0_8 σ (Proc.devRef .tc main_v25) = Tables.groupOf (σ (Proc.devRef .tc main_v12)) := by
  after_reads_simp
  all_goals try simp -implicitDefEqProofs only [StableHlo.TRef.toBuf, StableHlo.TRef.ofBuf, cast_cast, cast_eq]
  all_goals rfl

theorem l8_v42 : StableHlo.after hostOps0_8 σ (Proc.devRef .tc main_v42) = Tables.tileOf (σ (Proc.devRef .tc main_v2)) (σ (Proc.devRef .tc main_v11)) (σ (Proc.devRef .tc main_v12)) := by
  after_reads_simp
  all_goals try simp -implicitDefEqProofs only [StableHlo.TRef.toBuf, StableHlo.TRef.ofBuf, cast_cast, cast_eq]
  all_goals rfl

theorem l8_v0 : StableHlo.after hostOps0_8 σ (Proc.devRef .tc main_v0) = σ (Proc.devRef .tc main_v0) := by
  after_reads_simp

theorem l8_v1 : StableHlo.after hostOps0_8 σ (Proc.devRef .tc main_v1) = σ (Proc.devRef .tc main_v1) := by
  after_reads_simp

end

theorem tbl3_eq : tbl m 3 = Tables.ends (gsz m) := by
  show StableHlo.after (List.flatten [hostOps0, hostOps0_1, hostOps0_2, hostOps0_3, hostOps0_4, hostOps0_5, hostOps0_6, hostOps0_7, hostOps0_8]) (fun b => m (0, b)) (Proc.devRef .tc main_v0) = _
  simp only [List.flatten_cons, List.flatten_nil, List.append_nil, StableHlo.after_append]
  rw [l8_v0]
  rw [l7_v0, l6_v0, l5_v0, l4_v0, l3_v0, l2_v0, l1_v0, l0_v0]
  rfl

theorem tbl2_eq : tbl m 2 = Tables.starts (gsz m) := by
  show StableHlo.after (List.flatten [hostOps0, hostOps0_1, hostOps0_2, hostOps0_3, hostOps0_4, hostOps0_5, hostOps0_6, hostOps0_7, hostOps0_8]) (fun b => m (0, b)) (Proc.devRef .tc main_v1) = _
  simp only [List.flatten_cons, List.flatten_nil, List.append_nil, StableHlo.after_append]
  rw [l8_v1]
  rw [l7_v1, l6_v1, l5_v1, l4_v1, l3_v1, l2_v1, l1_v1, l0_v0, l0_arg1]
  rfl

theorem tbl0_eq : tbl m 0 = Tables.group (gsz m) := by
  show StableHlo.after (List.flatten [hostOps0, hostOps0_1, hostOps0_2, hostOps0_3, hostOps0_4, hostOps0_5, hostOps0_6, hostOps0_7, hostOps0_8]) (fun b => m (0, b)) (Proc.devRef .tc main_v25) = _
  simp only [List.flatten_cons, List.flatten_nil, List.append_nil, StableHlo.after_append]
  rw [l8_v25]
  rw [l7_v12, l6_v11, l5_v10, l5_v4, l5_c4, l4_v7, l4_v4, l4_v2, l3_c2, l3_v6, l3_v4, l3_v2, l2_v2, l2_v0, l2_arg1, l1_v1, l1_v0, l1_c, l1_arg1, l0_v0, l0_arg1]
  rfl

theorem tbl1_eq : tbl m 1 = Tables.tile (gsz m) := by
  show StableHlo.after (List.flatten [hostOps0, hostOps0_1, hostOps0_2, hostOps0_3, hostOps0_4, hostOps0_5, hostOps0_6, hostOps0_7, hostOps0_8]) (fun b => m (0, b)) (Proc.devRef .tc main_v42) = _
  simp only [List.flatten_cons, List.flatten_nil, List.append_nil, StableHlo.after_append]
  rw [l8_v42]
  rw [l7_v2, l7_v11, l7_v12, l6_v2, l6_v11, l5_v2, l5_v10, l5_v4, l5_c4, l4_v7, l4_v4, l4_v2, l3_c2, l3_v6, l3_v4, l3_v2, l2_v2, l2_v0, l2_arg1, l1_v1, l1_v0, l1_c, l1_arg1, l0_v0, l0_arg1]
  rfl

end Cert.KernelIdeal.Gen

end
-- ==== Proof.OkIdeal.lean ====
/- Where the group sizes fill the rows the kernel's index maps stay inside the arrays, and the body's table reads are in range. -/
module

public import proofs.«01_k».proof.Proof.TabIdeal
public import Idealize.ShloMosaic.Lib.PairWhole

@[expose] public section

set_option maxRecDepth 16384

noncomputable section

namespace Cert.KernelIdeal.Gen

open Idealize.ShloMosaic Idealize.ShloMosaic.TcCoe Idealize.ShloMosaic.Tactic

variable {F : FTy → Type} [FloatOps F]
variable (m : (ℓ : Loc nD τ sig) → Buf (Elt F) ℓ)

/-- A grid point's number. -/
abbrev pn (i : grid0.Coords) : Fin 47 := i 0

theorem pn_word (i : grid0.Coords) : (Scalar.indexCast (BitVec.ofNat 32 (i 0).val)).toNat = (pn i).val := by
  have h : (pn i).val < 47 := (pn i).isLt
  have e : (i 0).val = (pn i).val := rfl
  show (BitVec.ofNat 32 (i 0).val).toNat = _
  rw [e, BitVec.toNat_ofNat]
  omega

/-- The word a table of 47 holds at a point. -/
theorem word_at (n k : ℕ) (e : n = k) (hk : k < 47) (x : IVec S47 32) (h : ∀ a, (![n] : Fin 1 → ℕ) a + S1.size a ≤ S47.size a) (hp : 0 < (Rect.unit (s := S47) ![n] S1.size h).shape.numel) :
    x ((Rect.unit (s := S47) ![n] S1.size h).emb (Shape.Idx.first hp)) = x (ValueIdx.ix1 ⟨k, hk⟩) := by
  subst e
  refine congrArg x (funext fun a => Fin.ext ?_)
  match a with
  | ⟨0, _⟩ => rfl

variable (hS : Fill.S (Tables.gn (gsz m)) 16 = 16384)
include hS

theorem tile_word (i : grid0.Coords) (h) :
    (tbl m).at 1 (Rect.unit (s := S47) ![(Scalar.indexCast (BitVec.ofNat 32 (i 0).val)).toNat] S1.size h) numel1_S1 = BitVec.ofNat 32 (Fill.tile (Tables.gn (gsz m)) (pn i).val) := by
  refine (word_at _ _ (pn_word i) (pn i).isLt (tbl m 1) h _).trans ?_
  rw [tbl1_eq]
  exact Tables.tile_at hS (pn i)

theorem group_word (i : grid0.Coords) (h) :
    (tbl m).at 0 (Rect.unit (s := S47) ![(Scalar.indexCast (BitVec.ofNat 32 (i 0).val)).toNat] S1.size h) numel1_S1 = BitVec.ofNat 32 (Fill.grp (Tables.gn (gsz m)) (pn i).val) := by
  refine (word_at _ _ (pn_word i) (pn i).isLt (tbl m 0) h _).trans ?_
  rw [tbl0_eq]
  exact Tables.group_at hS (pn i)

theorem tr0_eq (i : grid0.Coords) : cc0_transform_0 k0_off1_inb numel1_S1 (tbl m) i = ![Fill.tile (Tables.gn (gsz m)) (pn i).val, 0] := by
  have hl := Fill.tile_lt hS (pn i).val
  refine (congrArg (fun w : BitVec 32 => (![w.toNat, 0] : Fin 2 → ℕ)) (tile_word m hS i (k0_off1_inb i))).trans ?_
  show ![(BitVec.ofNat 32 _).toNat, 0] = _
  rw [BitVec.toNat_ofNat, Nat.mod_eq_of_lt (by omega)]
theorem tr3_eq (i : grid0.Coords) : cc0_transform_3 k0_off1_inb numel1_S1 (tbl m) i = ![Fill.tile (Tables.gn (gsz m)) (pn i).val, 0] := by
  have hl := Fill.tile_lt hS (pn i).val
  refine (congrArg (fun w : BitVec 32 => (![w.toNat, 0] : Fin 2 → ℕ)) (tile_word m hS i (k0_off1_inb i))).trans ?_
  show ![(BitVec.ofNat 32 _).toNat, 0] = _
  rw [BitVec.toNat_ofNat, Nat.mod_eq_of_lt (by omega)]
theorem tr1_eq (i : grid0.Coords) : cc0_transform_1 k0_off1_inb numel1_S1 (tbl m) i = ![Fill.grp (Tables.gn (gsz m)) (pn i).val, 0, 0] := by
  have hl := (Fill.grp_spec hS (pn i).val).1
  refine (congrArg (fun w : BitVec 32 => (![w.toNat, 0, 0] : Fin 3 → ℕ)) (group_word m hS i (k0_off1_inb i))).trans ?_
  show ![(BitVec.ofNat 32 _).toNat, 0, 0] = _
  rw [BitVec.toNat_ofNat, Nat.mod_eq_of_lt (by omega)]
theorem tr2_eq (i : grid0.Coords) : cc0_transform_2 k0_off1_inb numel1_S1 (tbl m) i = ![Fill.grp (Tables.gn (gsz m)) (pn i).val, 0, 0] := by
  have hl := (Fill.grp_spec hS (pn i).val).1
  refine (congrArg (fun w : BitVec 32 => (![w.toNat, 0, 0] : Fin 3 → ℕ)) (group_word m hS i (k0_off1_inb i))).trans ?_
  show ![(BitVec.ofNat 32 _).toNat, 0, 0] = _
  rw [BitVec.toNat_ofNat, Nat.mod_eq_of_lt (by omega)]

omit hS in
theorem inb2 (k : ℕ) (hk : k < 32) (f : Fin 2 → ℕ) (e : f = ![k, 0]) : ∀ a, (f a + 1) * S512x2048.size a ≤ S16384x2048.size a := by
  subst e
  intro a
  match a with
  | ⟨0, _⟩ => show (k + 1) * 512 ≤ 16384; omega
  | ⟨1, _⟩ => show (0 + 1) * 2048 ≤ 2048; omega
omit hS in
theorem inb3 (k : ℕ) (hk : k < 16) (f : Fin 3 → ℕ) (e : f = ![k, 0, 0]) : ∀ a, (f a + 1) * S1x2048x2048.size a ≤ S16x2048x2048.size a := by
  subst e
  intro a
  match a with
  | ⟨0, _⟩ => show (k + 1) * 1 ≤ 16; omega
  | ⟨1, _⟩ => show (0 + 1) * 2048 ≤ 2048; omega
  | ⟨2, _⟩ => show (0 + 1) * 2048 ≤ 2048; omega
omit hS in
theorem inb3' (k : ℕ) (hk : k < 16) (f : Fin 3 → ℕ) (e : f = ![k, 0, 0]) : ∀ a, (f a + 1) * S1x16x16.size a ≤ S16x16x16.size a := by
  subst e
  intro a
  match a with
  | ⟨0, _⟩ => show (k + 1) * 1 ≤ 16; omega
  | ⟨1, _⟩ => show (0 + 1) * 16 ≤ 16; omega
  | ⟨2, _⟩ => show (0 + 1) * 16 ≤ 16; omega

omit hS in
theorem ww2 (f : Fin 2 → ℕ) (h) : (Rect.block (s := S16384x2048) S512x2048.size f h).WholeWords (EltTy.packing .bf16) := by
  refine (Rect.packedRows_of_rowAxis _ _ (by decide) ?_ ?_ rfl).wholeWords
  · show 2 ∣ f 0 * 512
    exact Dvd.dvd.mul_left (by decide) _
  · show 2 ∣ 512
    decide
omit hS in
theorem ww3 (k : ℕ) (f : Fin 3 → ℕ) (e : f = ![k, 0, 0]) (h) : (Rect.block (s := S16x2048x2048) S1x2048x2048.size f h).WholeWords (EltTy.packing .fp8e4m3) := by
  subst e
  exact .inr ⟨by decide, rfl, rfl, rfl⟩

/-- Every block lies inside its array. -/
theorem ok_of_fill : Ok m :=
  ⟨fun i => ⟨inb2 _ (Fill.tile_lt hS _) _ (tr0_eq m hS i), .inr (ww2 _ _)⟩,
   fun i => ⟨inb3 _ (Fill.grp_spec hS _).1 _ (tr1_eq m hS i), .inr (ww3 _ _ (tr1_eq m hS i) _)⟩,
   fun i => ⟨inb3' _ (Fill.grp_spec hS _).1 _ (tr2_eq m hS i), .inl rfl⟩,
   fun i => ⟨inb2 _ (Fill.tile_lt hS _) _ (tr3_eq m hS i), .inr (ww2 _ _)⟩⟩

/-- The body's reads of the two bounds stay in range. -/
theorem hyps_of_fill (hO : Ok m) : Hyps m hO := Hyps.of fun c t => by
  have hl := (Fill.grp_spec hS (pn (grid0.coords t)).val).1
  have e : tbM0_0.view.readAt (Elt F) (Rect.unit (s := S47) (k0_off1 (grid0.coords t)) S1.size (k0_off1_inb (grid0.coords t))).toLoadRect (tbl m 0) (Shape.Idx.first (numel1_S1.symm ▸ Nat.one_pos))
      = BitVec.ofNat 32 (Fill.grp (Tables.gn (gsz m)) (pn (grid0.coords t)).val) := group_word m hS (grid0.coords t) _
  unfold Hyps.p0
  rw [e]
  intro a
  match a with
  | ⟨0, _⟩ =>
    show (BitVec.ofNat 32 (Fill.grp (Tables.gn (gsz m)) (pn (grid0.coords t)).val)).toNat + 1 ≤ 16
    rw [BitVec.toNat_ofNat, Nat.mod_eq_of_lt (by omega)]
    omega

end Cert.KernelIdeal.Gen

end
-- ==== Proof.BodyIdeal.lean ====
/- The body of one grid point, over the reals: its mask, its blocks and its products. -/
module

public import proofs.«01_k».proof.Proof.RunValue
public import proofs.«01_k».proof.Proof.OkIdeal

@[expose] public section

set_option maxRecDepth 16384

noncomputable section

namespace Cert.KernelIdeal.Gen

open Idealize.ShloMosaic Idealize.ShloMosaic.TcCoe Idealize.ShloMosaic.ValueIdx Idealize.ShloMosaic.WordCmp

/-- The position of a column inside its 256 columns. -/
def loc256 (y : S512x2048.Idx) : S512x256.Idx := fun a => match a with
  | ⟨0, _⟩ => y 0
  | ⟨1, _⟩ => ⟨(y 1).val % 256, Nat.mod_lt _ (by omega)⟩

/-- The product of a tile's quantised tokens with a group's scaled weights. -/
def prodQ (x1 : Vec Ideal S1x2048x2048 .fp8e4m3) (x2 : Vec Ideal S1x16x16 .f32) (lhs : Vec Ideal S512x2048 .bf16) : Vec Ideal S512x2048 .bf16 := fun y =>
  matmul (φ₁ := .bf16) (φ₂ := .bf16) dot_S512x2048_S2048x256_S512x256_1_0_0_1_n_n none lhs (rhsQ x1 x2 ((y 1).val / 256) (by have := y1_lt y; omega)) (constant S512x256 .f32 0x00000000#32) (loc256 y)

theorem outQ_ideal (mask : IVec S512x256 1) (x1 : Vec Ideal S1x2048x2048 .fp8e4m3) (x2 : Vec Ideal S1x16x16 .f32) (lhs old : Vec Ideal S512x2048 .bf16) (y : S512x2048.Idx) :
    outQ mask x1 x2 lhs old y = if mask (loc256 y) = 1#1 then prodQ x1 x2 lhs y else old y := by
  have hy := y1_lt y
  have e : outQ mask x1 x2 lhs old y = Scalar.select (mask (loc256 y)) (prodQ x1 x2 lhs y)
      (shapeCast S512x256 (View.ld old (Rect.unit (s := S512x2048) ![0, 256 * ((y 1).val / 256)] ![512, 256] (wide_inb _ (by omega)))) shapeCasts_S512x256_S512x256 (loc256 y)) := rfl
  rw [e, congrFun (shapeCast_self (s := S512x256) (View.ld old (Rect.unit (s := S512x2048) ![0, 256 * ((y 1).val / 256)] ![512, 256] (wide_inb _ (by omega))) : Vec Ideal S512x256 .bf16) shapeCasts_S512x256_S512x256) (loc256 y)]
  by_cases hm : mask (loc256 y) = 1#1
  · rw [if_pos hm, hm, WordCmp.select_one]
  rw [if_neg hm, select_of_eq_zero (eq_zero_of_ne_one hm)]
  refine congrArg old (funext fun a => Fin.ext ?_)
  match a with
  | ⟨0, _⟩ => show 0 + 1 * (y 0).val = (y 0).val; omega
  | ⟨1, _⟩ => show 256 * ((y 1).val / 256) + 1 * ((y 1).val % 256) = (y 1).val; omega

theorem mask_ideal (T a b : ℕ) (hT : T < 32) (ha : a ≤ 16384) (hb : b ≤ 16384) (z : S512x256.Idx) :
    k0_pay76 (F := Ideal) (BitVec.ofNat 32 T) (BitVec.ofNat 32 a) (BitVec.ofNat 32 b) z = 1#1 ↔ a ≤ 512 * T + (z 0).val ∧ 512 * T + (z 0).val < b := by
  have hz : (z 0).val < 512 := (z 0).isLt
  have e : k0_pay76 (F := Ideal) (BitVec.ofNat 32 T) (BitVec.ofNat 32 a) (BitVec.ofNat 32 b) z
      = IntOp.andi (IntOp.cmpi .sge (BitVec.ofNat 32 T * 512#32 + iota .tc S512x256 32 [0] iota_S512x256_d0_w32 z) (BitVec.ofNat 32 a))
          (IntOp.cmpi .slt (BitVec.ofNat 32 T * 512#32 + iota .tc S512x256 32 [0] iota_S512x256_d0_w32 z) (BitVec.ofNat 32 b)) := rfl
  have ei : iota .tc S512x256 32 [0] iota_S512x256_d0_w32 z = BitVec.ofNat 32 (z 0).val := iota_single_apply _ _ _ _ _ _
  have es : BitVec.ofNat 32 T * 512#32 + BitVec.ofNat 32 (z 0).val = BitVec.ofNat 32 (512 * T + (z 0).val) := by
    apply BitVec.eq_of_toNat_eq
    simp only [BitVec.toNat_add, BitVec.toNat_mul, BitVec.toNat_ofNat]
    omega
  rw [e, ei, es, IntOp.andi_eq_one, IntOp.cmpi_sge, IntOp.cmpi_slt]
  have t (n : ℕ) (h : n ≤ 17000) : (BitVec.ofNat 32 n).toInt = n := by
    rw [BitVec.toInt_eq_toNat_of_lt (by rw [BitVec.toNat_ofNat]; omega), BitVec.toNat_ofNat, Nat.mod_eq_of_lt (by omega)]
  rw [t a (by omega), t b (by omega), t _ (by omega)]
  omega

theorem starts_word (c : Dev nD) (w : BitVec 32) (k : ℕ) (hk : k < 16) (e : w = BitVec.ofNat 32 k) (x : IVec S16 32) (h : ∀ a, k0_off3 w a + S1.size a ≤ S16.size a) :
    View.readAt (Elt Ideal) tbM0_2.view (Rect.unit (s := S16) (k0_off3 w) S1.size h).toLoadRect x (Shape.Idx.first (numel1_S1.symm ▸ Nat.one_pos)) = x (ValueIdx.ix1 ⟨k, hk⟩) := by
  subst e
  refine congrArg x (funext fun a => Fin.ext ?_)
  match a with
  | ⟨0, _⟩ =>
    show (BitVec.ofNat 32 k).toNat + 1 * 0 = k
    rw [BitVec.toNat_ofNat]; omega

theorem ends_word (c : Dev nD) (w : BitVec 32) (k : ℕ) (hk : k < 16) (e : w = BitVec.ofNat 32 k) (x : IVec S16 32) (h : ∀ a, k0_off3 w a + S1.size a ≤ S16.size a) :
    View.readAt (Elt Ideal) tbM0_3.view (Rect.unit (s := S16) (k0_off3 w) S1.size h).toLoadRect x (Shape.Idx.first (numel1_S1.symm ▸ Nat.one_pos)) = x (ValueIdx.ix1 ⟨k, hk⟩) := by
  subst e
  refine congrArg x (funext fun a => Fin.ext ?_)
  match a with
  | ⟨0, _⟩ =>
    show (BitVec.ofNat 32 k).toNat + 1 * 0 = k
    rw [BitVec.toNat_ofNat]; omega

/-! ## The blocks the windows hold -/

/-- Tile `T` of the tokens. -/
def xb (X : Vec Ideal S16384x2048 .bf16) (T : ℕ) : Vec Ideal S512x2048 .bf16 := fun y =>
  X (ix2 ⟨(512 * T + (y 0).val) % 16384, Nat.mod_lt _ (by omega)⟩ (y 1))

/-- The weights of group `g`. -/
def wb (W : Vec Ideal S16x2048x2048 .fp8e4m3) (g : ℕ) : Vec Ideal S1x2048x2048 .fp8e4m3 := fun y =>
  W (ix3 ⟨g % 16, Nat.mod_lt _ (by omega)⟩ (y 1) (y 2))

/-- The weights' scales of group `g`. -/
def sb (W : Vec Ideal S16x16x16 .f32) (g : ℕ) : Vec Ideal S1x16x16 .f32 := fun y =>
  W (ix3 ⟨g % 16, Nat.mod_lt _ (by omega)⟩ (y 1) (y 2))

theorem pn_coords (t : Fin grid0.N) : (pn (grid0.coords t)).val = t.val := by
  have h : t.val < 47 := t.isLt
  show t.val / 1 % 47 = t.val
  omega

variable (m : (ℓ : Loc nD τ sig) → Buf (Elt Ideal) ℓ)
variable (hS : Fill.S (Tables.gn (gsz m)) 16 = 16384)

include hS in
/-- The mask of a grid point: the rows of its tile that its group holds. -/
theorem maskQ_ideal (c : Dev nD) (i : grid0.Coords) (hw : HwQ c i (tbl m 0)) (z : S512x256.Idx) :
    maskQ c i (tbl m 0) (tbl m 1) (tbl m 2) (tbl m 3) hw z = 1#1 ↔
      Fill.S (Tables.gn (gsz m)) (Fill.grp (Tables.gn (gsz m)) (pn i).val) ≤ 512 * Fill.tile (Tables.gn (gsz m)) (pn i).val + (z 0).val
      ∧ 512 * Fill.tile (Tables.gn (gsz m)) (pn i).val + (z 0).val < Fill.S (Tables.gn (gsz m)) (Fill.grp (Tables.gn (gsz m)) (pn i).val + 1) := by
  have hg := (Fill.grp_spec hS (pn i).val).1
  have eg : View.readAt (Elt Ideal) tbM0_0.view (Rect.unit (s := S47) (k0_off1 i) S1.size (k0_off1_inb i)).toLoadRect (tbl m 0) (Shape.Idx.first (numel1_S1.symm ▸ Nat.one_pos))
      = BitVec.ofNat 32 (Fill.grp (Tables.gn (gsz m)) (pn i).val) := group_word m hS i _
  have e1 : kernelRun0_A.sl.r_1 c i (tbl m 1) = BitVec.ofNat 32 (Fill.tile (Tables.gn (gsz m)) (pn i).val) := tile_word m hS i _
  have e2 : kernelRun0_A.sl.r_44 c i (tbl m 0) (tbl m 2) hw = BitVec.ofNat 32 (Fill.S (Tables.gn (gsz m)) (Fill.grp (Tables.gn (gsz m)) (pn i).val)) := by
    sl_open_run
    rw [starts_word c _ _ hg eg (tbl m 2), tbl2_eq]
    exact Tables.starts_at ⟨_, hg⟩
  have e3 : kernelRun0_A.sl.r_45 c i (tbl m 0) (tbl m 3) hw = BitVec.ofNat 32 (Fill.S (Tables.gn (gsz m)) (Fill.grp (Tables.gn (gsz m)) (pn i).val + 1)) := by
    sl_open_run
    rw [ends_word c _ _ hg eg (tbl m 3), tbl3_eq]
    exact Tables.ends_at ⟨_, hg⟩
  have e : maskQ c i (tbl m 0) (tbl m 1) (tbl m 2) (tbl m 3) hw
      = k0_pay76 (F := Ideal) (kernelRun0_A.sl.r_1 c i (tbl m 1)) (kernelRun0_A.sl.r_44 c i (tbl m 0) (tbl m 2) hw) (kernelRun0_A.sl.r_45 c i (tbl m 0) (tbl m 3) hw) := rfl
  rw [e, e1, e2, e3]
  exact mask_ideal _ _ _ (Fill.tile_lt hS _) (Fill.S_le hS (by omega)) (Fill.S_le hS (by omega)) z

include hS in
theorem idx0 (hO : Ok m) (t : Fin (cfgM m hO).N) : ((cfgM m hO).win 0).index t = ![Fill.tile (Tables.gn (gsz m)) t.val, 0] := by
  have e := tr0_eq m hS (grid0.coords t)
  rw [pn_coords t] at e
  exact e

include hS in
theorem idx1 (hO : Ok m) (t : Fin (cfgM m hO).N) : ((cfgM m hO).win 1).index t = ![Fill.grp (Tables.gn (gsz m)) t.val, 0, 0] := by
  have e := tr1_eq m hS (grid0.coords t)
  rw [pn_coords t] at e
  exact e

include hS in
theorem idx2 (hO : Ok m) (t : Fin (cfgM m hO).N) : ((cfgM m hO).win 2).index t = ![Fill.grp (Tables.gn (gsz m)) t.val, 0, 0] := by
  have e := tr2_eq m hS (grid0.coords t)
  rw [pn_coords t] at e
  exact e

include hS in
theorem idx3 (hO : Ok m) (t : Fin (cfgM m hO).N) : ((cfgM m hO).win 3).index t = ![Fill.tile (Tables.gn (gsz m)) t.val, 0] := by
  have e := tr3_eq m hS (grid0.coords t)
  rw [pn_coords t] at e
  exact e

include hS in
theorem iblk0 (hO : Ok m) (c : Dev nD) (t : Fin (cfgM m hO).N) :
    iblk m hO c 0 t = xb (m ((c.tc : Thread nD τ).loc main_arg0)) (Fill.tile (Tables.gn (gsz m)) t.val) := by
  have hT := Fill.tile_lt hS t.val
  refine funext fun (y : S512x2048.Idx) => ?_
  have h1 : iblk m hO c 0 t y = V m c main_arg0 ((((cfgM m hO).win 0).rect t).emb y) := rfl
  rw [h1, V_main_arg0]
  refine congrArg (m ((c.tc : Thread nD τ).loc main_arg0)) (funext fun a => Fin.ext ?_)
  refine (((cfgM m hO).win 0).rect_emb_val t y a rfl).trans ?_
  have e := idx0 m hS hO t
  have h0 : (y 0).val < 512 := (y 0).isLt
  have ea := congrFun e a
  refine (congrArg (· * _ + _) ea).trans ?_
  clear ea e h1
  match a with
  | ⟨0, _⟩ => show Fill.tile (Tables.gn (gsz m)) t.val * 512 + (y 0).val = (512 * Fill.tile (Tables.gn (gsz m)) t.val + (y 0).val) % 16384; omega
  | ⟨1, _⟩ => show 0 * 2048 + (y 1).val = (y 1).val; omega

include hS in
theorem iblk1 (hO : Ok m) (c : Dev nD) (t : Fin (cfgM m hO).N) :
    iblk m hO c 1 t = wb (m ((c.tc : Thread nD τ).loc main_arg2)) (Fill.grp (Tables.gn (gsz m)) t.val) := by
  have hT := (Fill.grp_spec hS t.val).1
  refine funext fun (y : S1x2048x2048.Idx) => ?_
  have h1 : iblk m hO c 1 t y = V m c main_arg2 ((((cfgM m hO).win 1).rect t).emb y) := rfl
  rw [h1, V_main_arg2]
  refine congrArg (m ((c.tc : Thread nD τ).loc main_arg2)) (funext fun a => Fin.ext ?_)
  refine (((cfgM m hO).win 1).rect_emb_val t y a rfl).trans ?_
  have e := idx1 m hS hO t
  have h0 : (y 0).val < 1 := (y 0).isLt
  have ea := congrFun e a
  refine (congrArg (· * _ + _) ea).trans ?_
  clear ea e h1
  match a with
  | ⟨0, _⟩ => show Fill.grp (Tables.gn (gsz m)) t.val * 1 + (y 0).val = Fill.grp (Tables.gn (gsz m)) t.val % 16; omega
  | ⟨1, _⟩ => show 0 * 2048 + (y 1).val = (y 1).val; omega
  | ⟨2, _⟩ => show 0 * 2048 + (y 2).val = (y 2).val; omega

include hS in
theorem iblk2 (hO : Ok m) (c : Dev nD) (t : Fin (cfgM m hO).N) :
    iblk m hO c 2 t = sb (m ((c.tc : Thread nD τ).loc main_arg3)) (Fill.grp (Tables.gn (gsz m)) t.val) := by
  have hT := (Fill.grp_spec hS t.val).1
  refine funext fun (y : S1x16x16.Idx) => ?_
  have h1 : iblk m hO c 2 t y = V m c main_arg3 ((((cfgM m hO).win 2).rect t).emb y) := rfl
  rw [h1, V_main_arg3]
  refine congrArg (m ((c.tc : Thread nD τ).loc main_arg3)) (funext fun a => Fin.ext ?_)
  refine (((cfgM m hO).win 2).rect_emb_val t y a rfl).trans ?_
  have e := idx2 m hS hO t
  have h0 : (y 0).val < 1 := (y 0).isLt
  have ea := congrFun e a
  refine (congrArg (· * _ + _) ea).trans ?_
  clear ea e h1
  match a with
  | ⟨0, _⟩ => show Fill.grp (Tables.gn (gsz m)) t.val * 1 + (y 0).val = Fill.grp (Tables.gn (gsz m)) t.val % 16; omega
  | ⟨1, _⟩ => show 0 * 16 + (y 1).val = (y 1).val; omega
  | ⟨2, _⟩ => show 0 * 16 + (y 2).val = (y 2).val; omega

theorem not_either : ∀ a b : BitVec 1, ¬ (Scalar.cmpi .ne (Scalar.extui (Scalar.ori a b)) 0#32) = 1#1 → a ≠ 1#1 ∧ b ≠ 1#1 := by decide

theorem prev_word (t : ℕ) (h : t < 47) (h0 : t ≠ 0) : (Scalar.maxsi (Scalar.subi (BitVec.ofNat 32 t) 1#32) 0#32).toNat = t - 1 := by
  have H : ∀ t : Fin 47, t.val ≠ 0 → (Scalar.maxsi (Scalar.subi (BitVec.ofNat 32 t.val) 1#32) 0#32).toNat = t.val - 1 := by decide
  exact H ⟨t, h⟩ h0

include hS in
/-- A point that does not quantise its tile afresh is a later one, of the same tile. -/
theorem same_tile (hO : Ok m) (t : Fin (cfgM m hO).N) (h : ¬ cond0_0 (grid0.coords t) (tbM0_1.view.readAt (Elt Ideal) (Rect.unit (s := S47) (k0_off1 (grid0.coords t)) S1.size (k0_off1_inb (grid0.coords t))).toLoadRect (tbl m 1) (Shape.Idx.first (numel1_S1.symm ▸ Nat.one_pos))) (tbM0_1.view.readAt (Elt Ideal) (Rect.unit (s := S47) (k0_off2 (grid0.coords t)) S1.size (k0_off2_inb (grid0.coords t))).toLoadRect (tbl m 1) (Shape.Idx.first (numel1_S1.symm ▸ Nat.one_pos)))) :
    t.val ≠ 0 ∧ Fill.tile (Tables.gn (gsz m)) t.val = Fill.tile (Tables.gn (gsz m)) (t.val - 1) := by
  have ht : t.val < 47 := t.isLt
  have hp : (grid0.coords t 0).val = t.val := pn_coords t
  obtain ⟨ha, hb⟩ := not_either _ _ h
  have h0 : t.val ≠ 0 := fun e => ha (by rw [hp, e]; rfl)
  refine ⟨h0, ?_⟩
  have e1 : tbM0_1.view.readAt (Elt Ideal) (Rect.unit (s := S47) (k0_off1 (grid0.coords t)) S1.size (k0_off1_inb (grid0.coords t))).toLoadRect (tbl m 1) (Shape.Idx.first (numel1_S1.symm ▸ Nat.one_pos)) = BitVec.ofNat 32 (Fill.tile (Tables.gn (gsz m)) t.val) :=
    (tile_word m hS (grid0.coords t) _).trans (by rw [pn_coords t])
  have e2 : tbM0_1.view.readAt (Elt Ideal) (Rect.unit (s := S47) (k0_off2 (grid0.coords t)) S1.size (k0_off2_inb (grid0.coords t))).toLoadRect (tbl m 1) (Shape.Idx.first (numel1_S1.symm ▸ Nat.one_pos)) = BitVec.ofNat 32 (Fill.tile (Tables.gn (gsz m)) (t.val - 1)) := by
    refine (word_at _ _ (by show (Scalar.maxsi (Scalar.subi (BitVec.ofNat 32 (grid0.coords t 0).val) 1#32) 0#32).toNat = t.val - 1; rw [hp]; exact prev_word _ ht h0) (by omega : t.val - 1 < 47) (tbl m 1) (k0_off2_inb (grid0.coords t)) _).trans ?_
    rw [tbl1_eq]
    exact Tables.tile_at hS ⟨t.val - 1, by omega⟩
  rw [e1, e2] at hb
  by_contra hne
  have l1 := Fill.tile_lt hS t.val
  have l2 := Fill.tile_lt hS (t.val - 1)
  refine hb ((WordCmp.cmpi_ne_ofNat_eq_one_iff ?_ ?_).2 hne)
  all_goals omega

end Cert.KernelIdeal.Gen

end
-- ==== Proof.IdealFrame.lean ====
/- The frame of the kernel: it terminates, leaves its arguments unchanged and its counters at zero. -/
module

public import proofs.«01_k».proof.Proof.IdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ (∃ d, owns (c : Thread nD τ) (ms0_3 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2]
  rw [show (dats m hO hH 0 c).Φ t.castSucc = iprop(Pipeline.ΦA spec0 c ∗ Pipeline.ΦT pre0 (tbl m) c) from rfl, PhiT0_eq, PhiA0_eq]
  by_cases h0 : cond0_0 (grid0.coords t) (tbM0_1.view.readAt (Elt F) (Rect.unit (s := S47) (k0_off1 (grid0.coords t)) S1.size (k0_off1_inb (grid0.coords t))).toLoadRect (tbl m 1) (Shape.Idx.first (numel1_S1.symm ▸ Nat.one_pos))) (tbM0_1.view.readAt (Elt F) (Rect.unit (s := S47) (k0_off2 (grid0.coords t)) S1.size (k0_off2_inb (grid0.coords t))).toLoadRect (tbl m 1) (Shape.Idx.first (numel1_S1.symm ▸ Nat.one_pos)))
  · iintro ⟨⟨⟨⟨%x4, HS0⟩, Hg⟩, ⟨HT0, HT1, HT2, HT3⟩⟩, Ho, ⟨%d0, H0⟩, ⟨%d1, H1⟩, ⟨%d2, H2⟩, ⟨%d3, H3⟩⟩
    iapply ((kernelRun0_A c (grid0.coords t) _ _ _ _ _ _ _ _ _ _ (iblk m hO c 0 t) (iblk m hO c 1 t) (iblk m hO c 2 t) d3 x4 (tbl m 0) (tbl m 1) (tbl m 2) (tbl m 3) h0 (Hyps.c0 hH c t)).2 Set.univ _)
    isplitl [H0]; · iexact H0
    isplitl [H1]; · iexact H1
    isplitl [H2]; · iexact H2
    isplitl [H3]; · iexact H3
    isplitl [HS0]; · iexact HS0
    isplitl [HT0]; · iexact HT0
    isplitl [HT1]; · iexact HT1
    isplitl [HT2]; · iexact HT2
    isplitl [HT3]; · iexact HT3
    iintro ⟨H0, H1, H2, H3, HS0, HT0, HT1, HT2, HT3⟩
    isplitl [HS0 Hg HT0 HT1 HT2 HT3]
    · isplitl [HS0 Hg]
      · isplitl [HS0]
        · iexists _; iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexists _; iexact H3
  · iintro ⟨⟨⟨⟨%x4, HS0⟩, Hg⟩, ⟨HT0, HT1, HT2, HT3⟩⟩, Ho, ⟨%d0, H0⟩, ⟨%d1, H1⟩, ⟨%d2, H2⟩, ⟨%d3, H3⟩⟩
    iapply ((kernelRun0_B c (grid0.coords t) _ _ _ _ _ _ _ _ _ _ (iblk m hO c 0 t) (iblk m hO c 1 t) (iblk m hO c 2 t) d3 x4 (tbl m 0) (tbl m 1) (tbl m 2) (tbl m 3) h0 (Hyps.c0 hH c t)).2 Set.univ _)
    isplitl [H0]; · iexact H0
    isplitl [H1]; · iexact H1
    isplitl [H2]; · iexact H2
    isplitl [H3]; · iexact H3
    isplitl [HS0]; · iexact HS0
    isplitl [HT0]; · iexact HT0
    isplitl [HT1]; · iexact HT1
    isplitl [HT2]; · iexact HT2
    isplitl [HT3]; · iexact HT3
    iintro ⟨H0, H1, H2, H3, HS0, HT0, HT1, HT2, HT3⟩
    isplitl [HS0 Hg HT0 HT1 HT2 HT3]
    · isplitl [HS0 Hg]
      · isplitl [HS0]
        · iexists _; iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexists _; iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO hH 0 c).toRForget forgets0) (A_eq m hO hH) (run_main m ρ hO hH)

/-- THE FRAME: `Cert.quiescent_KernelIdeal`'s statement (Defs.lean) at any `F` — Proof.lean cites it at `Bits`:
    `theorem Cert.Proof.claim : Cert.Claim := ⟨Cert.KernelIdeal.Fr.facts, fun m ρ _ => Cert.KernelIdeal.Fr.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Fr.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hH) ((θ_run defs _ _).mono (fun _ h => h.2) (run_main_quiescent m ρ hO hH))

end Cert.KernelIdeal.Fr

end
-- ==== Proof.ValueIdeal.lean ====
/- The value of the kernel, over the reals: each row of the output is its tile's quantised row times its group's scaled weights. -/
module

public import proofs.«01_k».proof.Proof.BodyIdeal
public import proofs.«01_k».proof.Proof.IdealFrame
public import Idealize.ShloMosaic.Lib.Pipeline.DatRel
public import Idealize.ShloMosaic.Lib.Pipeline.ArrRel

@[expose] public section

set_option maxRecDepth 16384

noncomputable section

namespace Cert.KernelIdeal.Val

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

/-! ## The group of a row -/

open Classical in
/-- The group that holds row `r`. -/
def grow (g : ℕ → ℕ) (r : ℕ) : ℕ := if h : ∃ a, Fill.S g a ≤ r ∧ r < Fill.S g (a + 1) then h.choose else 0

theorem grow_eq (g : ℕ → ℕ) {r a : ℕ} (h0 : Fill.S g a ≤ r) (h1 : r < Fill.S g (a + 1)) : grow g r = a := by
  have h : ∃ a, Fill.S g a ≤ r ∧ r < Fill.S g (a + 1) := ⟨a, h0, h1⟩
  unfold grow
  rw [dif_pos h]
  obtain ⟨c0, c1⟩ := h.choose_spec
  generalize h.choose = b at c0 c1
  rcases Nat.lt_trichotomy a b with hl | hl | hl
  · have := Fill.S_mono (g := g) (show a + 1 ≤ b from hl); omega
  · exact hl.symm
  · have := Fill.S_mono (g := g) (show b + 1 ≤ a from hl); omega

variable (m : (ℓ : Loc nD τ sig) → Buf (Elt Ideal) ℓ) (ρ : Dev nD → PrngReg)

/-- What row `512 * T + y 0` of the output holds. -/
def tileOut (c : Dev nD) (T : ℕ) : Vec Ideal S512x2048 .bf16 := fun y =>
  prodQ (wb (m ((c.tc : Thread nD τ).loc main_arg2)) (grow (Tables.gn (gsz m)) (512 * T + (y 0).val)))
    (sb (m ((c.tc : Thread nD τ).loc main_arg3)) (grow (Tables.gn (gsz m)) (512 * T + (y 0).val)))
    (lhsQ (xb (m ((c.tc : Thread nD τ).loc main_arg0)) T)) y

/-- The rows of a tile that the groups up to a point's hold are done after that point. -/
def Done (c : Dev nD) (t : ℕ) (X : Vec Ideal S512x2048 .bf16) : Prop :=
  ∀ y : S512x2048.Idx, 512 * Fill.tile (Tables.gn (gsz m)) t + (y 0).val < Fill.S (Tables.gn (gsz m)) (Fill.grp (Tables.gn (gsz m)) t + 1) → X y = tileOut m c (Fill.tile (Tables.gn (gsz m)) t) y

theorem done_step (hS : Fill.S (Tables.gn (gsz m)) 16 = 16384) (c : Dev nD) (t : Fin 47) (i : grid0.Coords) (hi : (pn i).val = t.val) (hw : HwQ c i (tbl m 0)) (Y : Vec Ideal S512x2048 .bf16)
    (hY : t.val ≠ 0 → Fill.tile (Tables.gn (gsz m)) t.val = Fill.tile (Tables.gn (gsz m)) (t.val - 1) → Done m c (t.val - 1) Y) :
    Done m c t.val (outQ (maskQ c i (tbl m 0) (tbl m 1) (tbl m 2) (tbl m 3) hw) (wb (m ((c.tc : Thread nD τ).loc main_arg2)) (Fill.grp (Tables.gn (gsz m)) t.val))
      (sb (m ((c.tc : Thread nD τ).loc main_arg3)) (Fill.grp (Tables.gn (gsz m)) t.val)) (lhsQ (xb (m ((c.tc : Thread nD τ).loc main_arg0)) (Fill.tile (Tables.gn (gsz m)) t.val))) Y) := by
  intro y hy
  rw [outQ_ideal]
  have hl : ((loc256 y) 0).val = (y 0).val := rfl
  by_cases hm : maskQ c i (tbl m 0) (tbl m 1) (tbl m 2) (tbl m 3) hw (loc256 y) = 1#1
  · rw [if_pos hm]
    rw [maskQ_ideal m hS, hi, hl] at hm
    unfold tileOut
    rw [grow_eq _ hm.1 hm.2]
  · rw [if_neg hm]
    rw [maskQ_ideal m hS, hi, hl] at hm
    have hlt : 512 * Fill.tile (Tables.gn (gsz m)) t.val + (y 0).val < Fill.S (Tables.gn (gsz m)) (Fill.grp (Tables.gn (gsz m)) t.val) := by omega
    have h0 : t.val ≠ 0 := fun e => by
      have := (Fill.first hS).1
      rw [e, this] at hlt; omega
    obtain ⟨k, hk⟩ : ∃ k, t.val = k + 1 := ⟨t.val - 1, by omega⟩
    rw [hk] at hlt hY hy ⊢
    rw [Nat.add_sub_cancel] at hY
    have ht : Fill.tile (Tables.gn (gsz m)) (k + 1) = Fill.tile (Tables.gn (gsz m)) k := by
      by_contra h
      have := Fill.start_le hS k h
      omega
    have h2 := Fill.start_le_end hS k ht
    rw [ht] at hlt ⊢
    exact hY (by omega) ht y (by omega)

/-! ## The run, each output block held to what is done of it -/

/-- What the body leaves in a window: the output's, what is done. -/
def Rl (hO : Ok m) (c : Dev nD) : (w : Fin (cfgM m hO).W) → Fin (cfgM m hO).N → (((cfgM m hO).win w).block.Idx → Elt Ideal ((cfgM m hO).win w).elt) → Prop
  | ⟨3, _⟩, t, X => Done m c t.val X
  | _, _, _ => True

/-- The kernel's scratch before point `n`: the quantised tile of the point before. -/
def scr (c : Dev nD) (n : ℕ) : sProp 𝕄 :=
  iprop(∃ d, ⌜n ≠ 0 → d = lhsQ (xb (m ((c.tc : Thread nD τ).loc main_arg0)) (Fill.tile (Tables.gn (gsz m)) (n - 1)))⌝ ∗ owns (c : Thread nD τ) scM0_0 fullShare d)

/-- The proof data: as the frame's, the scratch known. -/
def datQ (hO : Ok m) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ s := iprop(iprop(scr m c s.val ∗ (∃ r, prngReg c r)) ∗ Pipeline.ΦT pre0 (tbl m) c)
  q _ := fullShare
  owed _ := 0

theorem A_eq (hO : Ok m) (c : Dev nD) (w : Fin (cfgM m hO).W) : (datQ m hO c).A w = V m c (Pipeline.arrRef spec0 w) := by
  dsimp only [datQ]

theorem after_0 (hO : Ok m) (c : Dev nD) (t : Fin (cfgM m hO).N) : (datQ m hO c).after 0 t = iblk m hO c 0 t := by dsimp only [datQ]; try rfl
theorem after_1 (hO : Ok m) (c : Dev nD) (t : Fin (cfgM m hO).N) : (datQ m hO c).after 1 t = iblk m hO c 1 t := by dsimp only [datQ]; try rfl
theorem after_2 (hO : Ok m) (c : Dev nD) (t : Fin (cfgM m hO).N) : (datQ m hO c).after 2 t = iblk m hO c 2 t := by dsimp only [datQ]; try rfl
theorem before_0 (hO : Ok m) (c : Dev nD) (t : Fin (cfgM m hO).N) (d) : (datQ m hO c).before 0 t d = iblk m hO c 0 t :=
  before0_0_of m hO (datQ m hO c) (A_eq m hO c 0) (after_0 m hO c) t d
theorem before_1 (hO : Ok m) (c : Dev nD) (t : Fin (cfgM m hO).N) (d) : (datQ m hO c).before 1 t d = iblk m hO c 1 t :=
  before0_1_of m hO (datQ m hO c) (A_eq m hO c 1) (after_1 m hO c) t d
theorem before_2 (hO : Ok m) (c : Dev nD) (t : Fin (cfgM m hO).N) (d) : (datQ m hO c).before 2 t d = iblk m hO c 2 t :=
  before0_2_of m hO (datQ m hO c) (A_eq m hO c 2) (after_2 m hO c) t d

/-- The data with the output held to what is done of it. -/
abbrev datR (hO : Ok m) (c : Dev nD) : RDat τ (Elt Ideal) Unit ℕ (UR sig nD τ) ℕ (cfgM m hO) c := (datQ m hO c).toRRel Fr.forgets0 (Rl m hO c)

/-- The output block the body finds is done up to the point before, of the same tile. -/
theorem found_done (hS : Fill.S (Tables.gn (gsz m)) 16 = 16384) (hO : Ok m) (c : Dev nD) (t : Fin (cfgM m hO).N) (Y : Vec Ideal S512x2048 .bf16) (hF : (datR m hO c).Finds 3 t Y)
    (h0 : t.val ≠ 0) (ht : Fill.tile (Tables.gn (gsz m)) t.val = Fill.tile (Tables.gn (gsz m)) (t.val - 1)) : Done m c (t.val - 1) Y := by
  have h47 : t.val < 47 := t.isLt
  rcases ((datR m hO c).finds_of_pos (w := 3) (t := t) rfl h0 Y).1 hF with h | h
  · exfalso
    unfold Pipeline.Window.flush at h
    simp only [Bool.and_eq_true, Bool.or_eq_true, decide_eq_true_eq] at h
    rcases h.2 with h | ⟨h, hne⟩
    · have h : t.val - 1 + 1 = 47 := h
      omega
    · refine hne ?_
      rw [idx3 m hS, idx3 m hS]
      have e : t.val - 1 + 1 = t.val := by omega
      simp only [e, ht]
      rfl
  · exact (datQ m hO c).toRRel_leaves (w := 3) rfl h

/-- What the body is called with, -/
def bodyPre (hO : Ok m) (c : Dev nD) (t : Fin (cfgM m hO).N) : sProp 𝕄 :=
  iprop((datQ m hO c).Φ t.castSucc ∗ (datQ m hO c).owesAt () t.castSucc
    ∗ (∃ d, owns (c : Thread nD τ) (ms0_0 m hO t) fullShare ((datQ m hO c).before 0 t d))
    ∗ (∃ d, owns (c : Thread nD τ) (ms0_1 m hO t) fullShare ((datQ m hO c).before 1 t d))
    ∗ (∃ d, owns (c : Thread nD τ) (ms0_2 m hO t) fullShare ((datQ m hO c).before 2 t d))
    ∗ (∃ d, ⌜(datR m hO c).Finds 3 t d⌝ ∗ owns (c : Thread nD τ) (ms0_3 m hO t) fullShare d))

/-- and what it returns. -/
def bodyPost (hO : Ok m) (c : Dev nD) (t : Fin (cfgM m hO).N) : sProp 𝕄 :=
  iprop((datQ m hO c).Φ t.succ ∗ (datQ m hO c).owesAt () t.succ
    ∗ owns (c : Thread nD τ) (ms0_0 m hO t) fullShare ((datQ m hO c).after 0 t)
    ∗ owns (c : Thread nD τ) (ms0_1 m hO t) fullShare ((datQ m hO c).after 1 t)
    ∗ owns (c : Thread nD τ) (ms0_2 m hO t) fullShare ((datQ m hO c).after 2 t)
    ∗ (∃ d, ⌜Rl m hO c 3 t d⌝ ∗ owns (c : Thread nD τ) (ms0_3 m hO t) fullShare d))

/-- The body's output is done up to its point. -/
theorem out_done (hS : Fill.S (Tables.gn (gsz m)) 16 = 16384) (hO : Ok m) (hH : Hyps m hO) (c : Dev nD) (t : Fin (cfgM m hO).N) (Y : Vec Ideal S512x2048 .bf16) (hF : (datR m hO c).Finds 3 t Y) :
    Done m c t.val (outQ (maskQ c (grid0.coords t) (tbl m 0) (tbl m 1) (tbl m 2) (tbl m 3) (Hyps.c0 hH c t)) (iblk m hO c 1 t) (iblk m hO c 2 t) (lhsQ (iblk m hO c 0 t)) Y) := by
  rw [iblk0 m hS, iblk1 m hS, iblk2 m hS]
  exact done_step m hS c t (grid0.coords t) (pn_coords t) _ Y (found_done m hS hO c t Y hF)

set_option maxHeartbeats 800000 in
theorem sound_body (hS : Fill.S (Tables.gn (gsz m)) 16 = 16384) (hO : Ok m) (hH : Hyps m hO) (c : Dev nD) (t : Fin (cfgM m hO).N) :
    bodyPre m hO c t ⊢ wp frame (wpE (defs₀ (F := Ideal)) Variants.none c none) Set.univ (bodyAt0 (adm m hO) t) (fun _ => bodyPost m hO c t) := by
  unfold bodyPre bodyPost bodyAt0
  simp only [before_0, before_1, before_2]
  rw [show (datQ m hO c).owesAt () t.succ = (datQ m hO c).owesAt () t.castSucc from rfl, after_0, after_1, after_2]
  rw [show (datQ m hO c).Φ t.castSucc = iprop(iprop(scr m c t.val ∗ (∃ r, prngReg c r)) ∗ Pipeline.ΦT pre0 (tbl m) c) from rfl,
    show (datQ m hO c).Φ t.succ = iprop(iprop(scr m c (t.val + 1) ∗ (∃ r, prngReg c r)) ∗ Pipeline.ΦT pre0 (tbl m) c) from rfl, PhiT0_eq]
  unfold scr
  by_cases h0 : cond0_0 (grid0.coords t) (tbM0_1.view.readAt (Elt Ideal) (Rect.unit (s := S47) (k0_off1 (grid0.coords t)) S1.size (k0_off1_inb (grid0.coords t))).toLoadRect (tbl m 1) (Shape.Idx.first (numel1_S1.symm ▸ Nat.one_pos))) (tbM0_1.view.readAt (Elt Ideal) (Rect.unit (s := S47) (k0_off2 (grid0.coords t)) S1.size (k0_off2_inb (grid0.coords t))).toLoadRect (tbl m 1) (Shape.Idx.first (numel1_S1.symm ▸ Nat.one_pos)))
  · iintro ⟨⟨⟨⟨%x4, %hx4, HS0⟩, Hg⟩, ⟨HT0, HT1, HT2, HT3⟩⟩, Ho, ⟨%d0, H0⟩, ⟨%d1, H1⟩, ⟨%d2, H2⟩, ⟨%d3, %hd3, H3⟩⟩
    have hs := scratch_A c (grid0.coords t) _ (hs0_0 m hO t) _ (hs0_1 m hO t) _ (hs0_2 m hO t) _ (hs0_3 m hO t) scM0_0 (Memref.isWhole_whole _) (iblk m hO c 0 t) (iblk m hO c 1 t) (iblk m hO c 2 t) d3 x4 (tbl m 0) (tbl m 1) (tbl m 2) (tbl m 3) h0 (Hyps.c0 hH c t)
    have ho := out_A c (grid0.coords t) _ (hs0_0 m hO t) _ (hs0_1 m hO t) _ (hs0_2 m hO t) _ (hs0_3 m hO t) scM0_0 (Memref.isWhole_whole _) (iblk m hO c 0 t) (iblk m hO c 1 t) (iblk m hO c 2 t) d3 x4 (tbl m 0) (tbl m 1) (tbl m 2) (tbl m 3) h0 (Hyps.c0 hH c t)
    iapply ((kernelRun0_A c (grid0.coords t) _ (hs0_0 m hO t) _ (hs0_1 m hO t) _ (hs0_2 m hO t) _ (hs0_3 m hO t) scM0_0 (Memref.isWhole_whole _) (iblk m hO c 0 t) (iblk m hO c 1 t) (iblk m hO c 2 t) d3 x4 (tbl m 0) (tbl m 1) (tbl m 2) (tbl m 3) h0 (Hyps.c0 hH c t)).2 Set.univ _)
    isplitl [H0]; · iexact H0
    isplitl [H1]; · iexact H1
    isplitl [H2]; · iexact H2
    isplitl [H3]; · iexact H3
    isplitl [HS0]; · iexact HS0
    isplitl [HT0]; · iexact HT0
    isplitl [HT1]; · iexact HT1
    isplitl [HT2]; · iexact HT2
    isplitl [HT3]; · iexact HT3
    iintro ⟨H0, H1, H2, H3, HS0, HT0, HT1, HT2, HT3⟩
    isplitl [HS0 Hg HT0 HT1 HT2 HT3]
    · isplitl [HS0 Hg]
      · isplitl [HS0]
        · iexists (kernelRun0_A c (grid0.coords t) _ (hs0_0 m hO t) _ (hs0_1 m hO t) _ (hs0_2 m hO t) _ (hs0_3 m hO t) scM0_0 (Memref.isWhole_whole _) (iblk m hO c 0 t) (iblk m hO c 1 t) (iblk m hO c 2 t) d3 x4 (tbl m 0) (tbl m 1) (tbl m 2) (tbl m 3) h0 (Hyps.c0 hH c t)).1.2
          isplitr [HS0]
          · ipureintro; exact fun _ => hs.trans (congrArg lhsQ (iblk0 m hS hO c t))
          iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexists (kernelRun0_A c (grid0.coords t) _ (hs0_0 m hO t) _ (hs0_1 m hO t) _ (hs0_2 m hO t) _ (hs0_3 m hO t) scM0_0 (Memref.isWhole_whole _) (iblk m hO c 0 t) (iblk m hO c 1 t) (iblk m hO c 2 t) d3 x4 (tbl m 0) (tbl m 1) (tbl m 2) (tbl m 3) h0 (Hyps.c0 hH c t)).1.1
    isplitr [H3]
    · ipureintro; exact (congrArg (Done m c t.val) ho).mpr (out_done m hS hO hH c t d3 hd3)
    iexact H3
  · have hst := same_tile m hS hO t h0
    iintro ⟨⟨⟨⟨%x4, %hx4, HS0⟩, Hg⟩, ⟨HT0, HT1, HT2, HT3⟩⟩, Ho, ⟨%d0, H0⟩, ⟨%d1, H1⟩, ⟨%d2, H2⟩, ⟨%d3, %hd3, H3⟩⟩
    have hx : x4 = lhsQ (xb (m ((c.tc : Thread nD τ).loc main_arg0)) (Fill.tile (Tables.gn (gsz m)) t.val)) := by rw [hst.2]; exact hx4 hst.1
    have hx' : x4 = lhsQ (iblk m hO c 0 t) := hx.trans (congrArg lhsQ (iblk0 m hS hO c t).symm)
    subst hx'
    have hs := scratch_B c (grid0.coords t) _ (hs0_0 m hO t) _ (hs0_1 m hO t) _ (hs0_2 m hO t) _ (hs0_3 m hO t) scM0_0 (Memref.isWhole_whole _) (iblk m hO c 0 t) (iblk m hO c 1 t) (iblk m hO c 2 t) d3 (lhsQ (iblk m hO c 0 t)) (tbl m 0) (tbl m 1) (tbl m 2) (tbl m 3) h0 (Hyps.c0 hH c t)
    have ho := out_B c (grid0.coords t) _ (hs0_0 m hO t) _ (hs0_1 m hO t) _ (hs0_2 m hO t) _ (hs0_3 m hO t) scM0_0 (Memref.isWhole_whole _) (iblk m hO c 0 t) (iblk m hO c 1 t) (iblk m hO c 2 t) d3 (lhsQ (iblk m hO c 0 t)) (tbl m 0) (tbl m 1) (tbl m 2) (tbl m 3) h0 (Hyps.c0 hH c t)
    iapply ((kernelRun0_B c (grid0.coords t) _ (hs0_0 m hO t) _ (hs0_1 m hO t) _ (hs0_2 m hO t) _ (hs0_3 m hO t) scM0_0 (Memref.isWhole_whole _) (iblk m hO c 0 t) (iblk m hO c 1 t) (iblk m hO c 2 t) d3 (lhsQ (iblk m hO c 0 t)) (tbl m 0) (tbl m 1) (tbl m 2) (tbl m 3) h0 (Hyps.c0 hH c t)).2 Set.univ _)
    isplitl [H0]; · iexact H0
    isplitl [H1]; · iexact H1
    isplitl [H2]; · iexact H2
    isplitl [H3]; · iexact H3
    isplitl [HS0]; · iexact HS0
    isplitl [HT0]; · iexact HT0
    isplitl [HT1]; · iexact HT1
    isplitl [HT2]; · iexact HT2
    isplitl [HT3]; · iexact HT3
    iintro ⟨H0, H1, H2, H3, HS0, HT0, HT1, HT2, HT3⟩
    isplitl [HS0 Hg HT0 HT1 HT2 HT3]
    · isplitl [HS0 Hg]
      · isplitl [HS0]
        · iexists (kernelRun0_B c (grid0.coords t) _ (hs0_0 m hO t) _ (hs0_1 m hO t) _ (hs0_2 m hO t) _ (hs0_3 m hO t) scM0_0 (Memref.isWhole_whole _) (iblk m hO c 0 t) (iblk m hO c 1 t) (iblk m hO c 2 t) d3 (lhsQ (iblk m hO c 0 t)) (tbl m 0) (tbl m 1) (tbl m 2) (tbl m 3) h0 (Hyps.c0 hH c t)).1.2
          isplitr [HS0]
          · ipureintro; exact fun _ => hs.trans (congrArg lhsQ (iblk0 m hS hO c t))
          iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexists (kernelRun0_B c (grid0.coords t) _ (hs0_0 m hO t) _ (hs0_1 m hO t) _ (hs0_2 m hO t) _ (hs0_3 m hO t) scM0_0 (Memref.isWhole_whole _) (iblk m hO c 0 t) (iblk m hO c 1 t) (iblk m hO c 2 t) d3 (lhsQ (iblk m hO c 0 t)) (tbl m 0) (tbl m 1) (tbl m 2) (tbl m 3) h0 (Hyps.c0 hH c t)).1.1
    isplitr [H3]
    · ipureintro; exact (congrArg (Done m c t.val) ho).mpr (out_done m hS hO hH c t d3 hd3)
    iexact H3

theorem body_obligation (hS : Fill.S (Tables.gn (gsz m)) 16 = 16384) (hO : Ok m) (hH : Hyps m hO) (c : Dev nD) : Pipeline.BodyObligationRel (datQ m hO c) (defs₀ (F := Ideal)) Variants.none () Set.univ Fr.forgets0 (Rl m hO c) := fun t => by
  rw [bigSep_W0, bigSep_W0, Fr.defs₀_row m hO]
  exact triple_restated (sound_body m hS hO hH c t) rfl .rfl fun _ => .rfl

theorem scr_in (c : Dev nD) : iprop(Pipeline.ΦA spec0 c ∗ Pipeline.ΦT pre0 (tbl m) c) ⊢ iprop(iprop(scr m c 0 ∗ (∃ r, prngReg c r)) ∗ Pipeline.ΦT pre0 (tbl m) c) := by
  refine sep_mono ?_ .rfl
  rw [PhiA0_eq]
  unfold scr
  iintro ⟨⟨%d, HS⟩, Hg⟩
  isplitl [HS]
  · iexists d
    isplitr [HS]
    · ipureintro; exact fun h => absurd rfl h
    iexact HS
  iexact Hg

theorem scr_out (c : Dev nD) (n : ℕ) : iprop(iprop(scr m c n ∗ (∃ r, prngReg c r)) ∗ Pipeline.ΦT pre0 (tbl m) c) ⊢ (Pipeline.ΦA spec0 c : sProp 𝕄) := by
  rw [PhiA0_eq]
  unfold scr
  iintro ⟨⟨⟨%d, %hd, HS⟩, Hg⟩, HT⟩
  isplitl [HS]
  · iexists d; iexact HS
  iexact Hg

set_option backward.isDefEq.respectTransparency.types false in
set_option maxHeartbeats 1000000 in
/-- The run: each output block ends as the data say. -/
theorem run_rel (hS : Fill.S (Tables.gn (gsz m)) 16 = 16384) (hO : Ok m) (hH : Hyps m hO) : θ_run defs (onTc (τ := τ) (main (F := Ideal))) (s₀ m ρ) (Pipeline.RDat.FramePost ((Pipeline.pin pcfgs fun _ => adm m hO) 0) (fun c => datR m hO c) (V m)) :=
  Pipeline.RDat.θ_run_frameP_track pcfgs (fun _ => adm m hO) (0 : Fin 1) launch0 defs₀ Variants.none (fun c => datR m hO c) m ρ main
    (hbody := fun c => (body_obligation m hS hO hH c).toRRel) (hshare := fun c => (datQ m hO c).share_full fun _ => rfl)
    (howed := fun _ _ => rfl) (V := V m) (hmain := hmain m Variants.none) (hA := A_eq m hO) (hpf := V_pre m)
    (hin := fun c => scr_in m c) (hout := fun c => scr_out m c _)

/-- The kernel's whole output. -/
def outArr (c : Dev nD) : Vec Ideal S16384x2048 .bf16 := fun i =>
  tileOut m c ((i 0).val / 512) (ix2 ⟨(i 0).val % 512, Nat.mod_lt _ (by decide)⟩ (i 1))

theorem emb3 (hS : Fill.S (Tables.gn (gsz m)) 16 = 16384) (hO : Ok m) (t : Fin (cfgM m hO).N) (y : S512x2048.Idx) (hT : Fill.tile (Tables.gn (gsz m)) t.val < 32) :
    ((((cfgM m hO).win 3).rect t).emb y : S16384x2048.Idx) = ix2 ⟨512 * Fill.tile (Tables.gn (gsz m)) t.val + (y 0).val, by have : (y 0).val < 512 := (y 0).isLt; omega⟩ (y 1) := by
  refine funext fun a => Fin.ext ?_
  refine (((cfgM m hO).win 3).rect_emb_val t y a rfl).trans ?_
  have ea := congrFun (idx3 m hS hO t) a
  refine (congrArg (· * _ + _) ea).trans ?_
  clear ea
  match a with
  | ⟨0, _⟩ => show Fill.tile (Tables.gn (gsz m)) t.val * 512 + (y 0).val = 512 * Fill.tile (Tables.gn (gsz m)) t.val + (y 0).val; omega
  | ⟨1, _⟩ => show 0 * 2048 + (y 1).val = (y 1).val; omega

theorem arr_eq (hS : Fill.S (Tables.gn (gsz m)) 16 = 16384) (hO : Ok m) (c : Dev nD)
    (after : (w' : Fin (cfgM m hO).W) → Fin (cfgM m hO).N → ((cfgM m hO).win w').block.Idx → Elt Ideal ((cfgM m hO).win w').elt)
    (ha : ∀ u : Fin (cfgM m hO).N, ((cfgM m hO).win 3).flush u = true → (datR m hO c).Leaves 3 u (after 3 u)) :
    ((datR m hO c).withAfter after).arrAt 3 (cfgM m hO).N = outArr m c := by
  refine Pipeline.Dat.arrAt_eq_of_cover ((datR m hO c).withAfter after) 3 (outArr m c) ?_ ?_
  · intro t hf
    have hd : Done m c t.val (after 3 t) := (datQ m hO c).toRRel_leaves (w := 3) rfl (ha t hf)
    have h47 : t.val < 47 := t.isLt
    have hT := Fill.tile_lt hS t.val
    have hE : 512 * (Fill.tile (Tables.gn (gsz m)) t.val + 1) ≤ Fill.S (Tables.gn (gsz m)) (Fill.grp (Tables.gn (gsz m)) t.val + 1) := by
      unfold Pipeline.Window.flush at hf
      simp only [Bool.and_eq_true, Bool.or_eq_true, decide_eq_true_eq] at hf
      rcases hf.2 with h | ⟨h, hne⟩
      · have h : t.val + 1 = 47 := h
        have e : t.val = 46 := by omega
        have hl := Fill.last hS
        rw [e]; omega
      · refine Fill.end_ge hS t.val fun e => hne ?_
        rw [idx3 m hS, idx3 m hS]
        simp only [e]
        rfl
    refine funext fun (y : S512x2048.Idx) => ?_
    have hy : (y 0).val < 512 := (y 0).isLt
    refine (hd y (by omega)).trans ?_
    show _ = outArr m c ((((cfgM m hO).win 3).rect t).emb y)
    rw [emb3 m hS hO t y hT]
    show _ = tileOut m c ((512 * Fill.tile (Tables.gn (gsz m)) t.val + (y 0).val) / 512) _
    rw [show (512 * Fill.tile (Tables.gn (gsz m)) t.val + (y 0).val) / 512 = Fill.tile (Tables.gn (gsz m)) t.val by omega]
    refine congrArg (tileOut m c _) (funext fun a => Fin.ext ?_)
    match a with
    | ⟨0, _⟩ => show (y 0).val = (512 * Fill.tile (Tables.gn (gsz m)) t.val + (y 0).val) % 512; omega
    | ⟨1, _⟩ => rfl
  · intro (i : S16384x2048.Idx)
    have hi : (i 0).val < 16384 := (i 0).isLt
    obtain ⟨t, ht, hk, hl, _⟩ := Fill.tile_last hS ((i 0).val / 512) (by omega)
    refine ⟨⟨t, ht⟩, ?_, ?_⟩
    · unfold Pipeline.Window.flush
      simp only [Bool.and_eq_true, Bool.or_eq_true, decide_eq_true_eq]
      refine ⟨rfl, ?_⟩
      rcases hl with h | h
      · left; show t + 1 = 47; omega
      · by_cases h46 : t + 1 < 47
        · right
          refine ⟨h46, ?_⟩
          rw [idx3 m hS, idx3 m hS]
          exact fun e => h (congrFun e 0)
        · left; show t + 1 = 47; omega
    · have hT : Fill.tile (Tables.gn (gsz m)) t < 32 := by omega
      have hm := (((cfgM m hO).win 3).blk ⟨t, ht⟩).view.emb_mem_set (ix2 ⟨(i 0).val % 512, Nat.mod_lt _ (by decide)⟩ (i 1) : S512x2048.Idx)
      have he : (((cfgM m hO).win 3).blk ⟨t, ht⟩).view.emb (ix2 ⟨(i 0).val % 512, Nat.mod_lt _ (by decide)⟩ (i 1) : S512x2048.Idx) = i := by
        refine (emb3 m hS hO ⟨t, ht⟩ _ hT).trans (funext fun a => Fin.ext ?_)
        match a with
        | ⟨0, _⟩ => show 512 * Fill.tile (Tables.gn (gsz m)) t + (i 0).val % 512 = (i 0).val; omega
        | ⟨1, _⟩ => rfl
      rw [he] at hm
      exact hm

/-- The kernel's output, and its arguments unchanged. -/
theorem run_value (hS : Fill.S (Tables.gn (gsz m)) 16 = 16384) (hO : Ok m) (hH : Hyps m hO) : θ_run defs (onTc (τ := τ) (main (F := Ideal))) ⟨m, fun _ => 0, ρ⟩ (fun r => ∀ c : Dev nD,
      r.2.mem ((c.tc : Thread nD τ).loc main_v43) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_rel m ρ hS hO hH
  refine (θ_run defs _ _).mono (fun r h c => ?_) (θ_run_and h (frame_of m ρ hO (fun c => datR m hO c) (A_eq m hO) h))
  obtain ⟨after, ha, hv⟩ := h.1.exists_exact c
  exact ⟨(hv 3).trans (arr_eq m hS hO c after fun u hu => ha 3 u hu), h.2 c⟩

end Cert.KernelIdeal.Val

end
-- ==== Proof.Quant.lean ====
/- The scalar facts of the quantiser over the reals: both ways of choosing the power-of-two scale leave the clip inactive. -/
module

public import Idealize.ShloMosaic.Lib.IdealHost
public import Idealize.ShloMosaic.Lib.Routing.Walk
public import Idealize.ShloMosaic.Lib.WordSum
public import Mathlib.Tactic.Positivity
public import Mathlib.Analysis.SpecialFunctions.Pow.Real

@[expose] public section

set_option maxRecDepth 16384

noncomputable section

namespace Cert.Quant

open Idealize.ShloMosaic

/-- Clipping to ±448 after dividing by a scale that is large enough, then multiplying back, changes nothing. -/
theorem clip_id (x s t : ℝ) (hs : 0 < s) (ht : t * s = 1) (hx : |x| ≤ 448 * s) :
    min (448 : ℝ) (max (-448) (x * t)) * s = x := by
  have htp : 0 < t := by
    rcases lt_trichotomy t 0 with h | h | h
    · exact absurd ht (by nlinarith)
    · subst h; simp at ht
    · exact h
  obtain ⟨h1, h2⟩ := abs_le.mp hx
  have e1 : x * t ≤ 448 := by nlinarith
  have e2 : -448 ≤ x * t := by nlinarith
  rw [max_eq_right e2, min_eq_right e1, mul_assoc, ht, mul_one]

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

theorem ofBits_bot : Ideal.ofBits .f32 0xFF800000#32 = ⊥ := by
  simp [Ideal.ofBits, Ideal.ieee]

/-- The constant by which the largest magnitude of a block is multiplied. -/
def c448 : ℝ := 9586981 / 2 ^ 32

theorem ofBits_c : Ideal.ofBits .f32 0x3B124925#32 = ((c448 : ℝ) : EReal) := by
  unfold c448
  simp [Ideal.ofBits, Ideal.ieee, -EReal.coe_mul]; norm_num

/-- The largest finite bfloat16. -/
theorem ofBits_max : Ideal.ofBits .f32 0x7F7F0000#32 ≤ ((2 ^ 128 : ℝ) : EReal) := by
  have e : Ideal.ofBits .f32 0x7F7F0000#32 = ((255 * 2 ^ 120 : ℝ) : EReal) := by
    simp [Ideal.ofBits, Ideal.ieee, -EReal.coe_mul]; norm_num
  rw [e]
  exact EReal.coe_le_coe_iff.mpr (by norm_num)

theorem c448_ge : 1 ≤ 448 * c448 := by unfold c448; norm_num
theorem c448_pos : 0 < c448 := by unfold c448; norm_num
theorem c448_le : c448 ≤ 1 / 256 := by unfold c448; norm_num

/-- A positive word whose exponent field is `k` and whose fraction is zero is the power of two. -/
theorem ieee_pow (b : BitVec 32) (k : ℕ) (a1 : b.extractLsb' 31 1 = 0#1) (a2 : (b.extractLsb' 23 8).toNat = k)
    (a3 : (b.extractLsb' 0 23).toNat = 0) (h1 : 1 ≤ k) (h2 : k ≤ 254) :
    Ideal.ieee 8 23 b = (((2 : ℝ) ^ ((k : ℤ) - 127) : ℝ) : EReal) := by
  unfold Ideal.ieee
  simp only [Nat.reduceAdd, a1, a2, a3]
  rw [if_neg (by omega), if_neg (by omega)]
  refine congrArg _ ?_
  rw [show (k : ℤ) - 127 = 23 + ((k : ℤ) - (2 ^ 7 - 1) - 23) by norm_num, zpow_add₀ (by norm_num)]
  norm_num

/-- The word of an exponent, as the kernel makes it. -/
theorem ofBits_pow (k : ℕ) (h1 : 1 ≤ k) (h2 : k ≤ 254) :
    Ideal.ofBits .f32 (BitVec.ofNat 32 k <<< 23) = (((2 : ℝ) ^ ((k : ℤ) - 127) : ℝ) : EReal) := by
  refine ieee_pow _ k ?_ ?_ ?_ h1 h2
  · apply BitVec.eq_of_toNat_eq
    simp only [BitVec.extractLsb'_toNat, BitVec.toNat_shiftLeft, Nat.shiftLeft_eq, Nat.shiftRight_eq_div_pow, BitVec.toNat_ofNat]
    omega
  · simp only [BitVec.extractLsb'_toNat, BitVec.toNat_shiftLeft, Nat.shiftLeft_eq, Nat.shiftRight_eq_div_pow, BitVec.toNat_ofNat]
    omega
  · simp only [BitVec.extractLsb'_toNat, BitVec.toNat_shiftLeft, Nat.shiftLeft_eq, Nat.shiftRight_eq_div_pow, BitVec.toNat_ofNat]
    omega

/-- The size of a set of small naturals closed downwards bounds it. -/
theorem count_spec (p : ℕ → Prop) [DecidablePred p] (hp : ∀ a b, a ≤ b → p b → p a) (n : ℕ)
    (hn : n = ((Finset.range 256).filter p).card) (h : n < 256) : ¬ p n := by
  intro hpn
  have : Finset.range (n + 1) ⊆ (Finset.range 256).filter p := by
    intro a ha
    have ha' := Finset.mem_range.mp ha
    exact Finset.mem_filter.mpr ⟨Finset.mem_range.mpr (by omega), hp a n (by omega) hpn⟩
  have := Finset.card_le_card this
  rw [Finset.card_range] at this
  omega

theorem count_le (p : ℕ → Prop) [DecidablePred p] (N : ℕ) (hN : ∀ b, p b → b < N) :
    ((Finset.range 256).filter p).card ≤ N := by
  have : (Finset.range 256).filter p ⊆ Finset.range N := by
    intro a ha
    exact Finset.mem_range.mpr (hN a (Finset.mem_filter.mp ha).2)
  have := Finset.card_le_card this
  rwa [Finset.card_range] at this

/-- The threshold the kernel compares with, for an exponent field. -/
def thr (b : ℕ) : EReal := Ideal.ofBits .f32 (BitVec.ofNat 32 b <<< 23)

theorem thr_zero : thr 0 = 0 := by
  unfold thr
  simp [Ideal.ofBits_zero_f32]

theorem thr_mid (b : ℕ) (h1 : 1 ≤ b) (h2 : b ≤ 254) : thr b = (((2 : ℝ) ^ ((b : ℤ) - 127) : ℝ) : EReal) := ofBits_pow b h1 h2

theorem thr_top : thr 255 = ⊤ := by
  unfold thr
  simp [Ideal.ofBits, Ideal.ieee]

theorem thr_mono (a b : ℕ) (h : a ≤ b) (hb : b < 256) : thr a ≤ thr b := by
  rcases Nat.eq_zero_or_pos a with rfl | ha
  · rw [thr_zero]
    rcases Nat.eq_zero_or_pos b with rfl | hb0
    · rw [thr_zero]
    · rcases Nat.lt_or_ge b 255 with hb' | hb'
      · rw [thr_mid b hb0 (by omega)]
        exact EReal.coe_nonneg.mpr (by positivity)
      · rw [show b = 255 by omega, thr_top]; exact le_top
  · rcases Nat.lt_or_ge b 255 with hb' | hb'
    · rw [thr_mid a ha (by omega), thr_mid b (by omega) (by omega)]
      exact EReal.coe_le_coe_iff.mpr (zpow_le_zpow_right₀ (by norm_num) (by omega))
    · rw [show b = 255 by omega, thr_top]; exact le_top

/-- The kernel's choice of exponent: the number of thresholds reached, less one; its scale covers the block. -/
theorem kernel_scale (a : ℝ) (ha0 : 0 ≤ a) (ha : a ≤ 2 ^ 128) (n : ℕ)
    (hn : n = ((Finset.range 256).filter (fun b => thr b ≤ ((a * c448 : ℝ) : EReal))).card) :
    1 ≤ n ∧ n ≤ 248 ∧ (n = 1 → a ≤ 448) ∧ (2 ≤ n → a ≤ 448 * (2 : ℝ) ^ ((n : ℤ) - 127)) := by
  have hc := c448_pos
  have h0 : thr 0 ≤ ((a * c448 : ℝ) : EReal) := by
    rw [thr_zero]; exact EReal.coe_nonneg.mpr (by positivity)
  have h1 : 1 ≤ n := by
    rw [hn]; exact Finset.card_pos.mpr ⟨0, Finset.mem_filter.mpr ⟨Finset.mem_range.mpr (by omega), h0⟩⟩
  have h2 : n ≤ 248 := by
    rw [hn]
    rw [show (Finset.range 256).filter (fun b => thr b ≤ ((a * c448 : ℝ) : EReal)) = (Finset.range 256).filter (fun b => b < 256 ∧ thr b ≤ ((a * c448 : ℝ) : EReal)) from
      Finset.filter_congr fun b hb => by simp [Finset.mem_range.mp hb]]
    refine count_le _ 248 fun b hb => ?_
    by_contra hlt
    have h3 := (thr_mono 248 b (by omega) hb.1).trans hb.2
    rw [thr_mid 248 (by omega) (by omega)] at h3
    have h4 := EReal.coe_le_coe_iff.mp h3
    have h5 : a * c448 ≤ 2 ^ 128 * (1 / 256) := mul_le_mul ha c448_le hc.le (by positivity)
    have h6 := h4.trans h5
    norm_num at h6
  have hlt : ((a * c448 : ℝ) : EReal) < thr n := by
    rw [← not_le]
    intro hle
    refine count_spec (fun b => b < 256 ∧ thr b ≤ ((a * c448 : ℝ) : EReal)) (fun x y hxy hy => ⟨by omega, (thr_mono x y hxy hy.1).trans hy.2⟩) n ?_ (by omega) ⟨by omega, hle⟩
    rw [hn]
    exact congrArg _ (Finset.filter_congr fun b hb => by simp [Finset.mem_range.mp hb])
  rw [thr_mid n h1 (by omega)] at hlt
  have hlt' := EReal.coe_lt_coe_iff.mp hlt
  have hk : a ≤ 448 * (a * c448) := by nlinarith [c448_ge]
  have hb : a ≤ 448 * (2 : ℝ) ^ ((n : ℤ) - 127) := by linarith
  refine ⟨h1, h2, fun e => ?_, fun _ => hb⟩
  have : (2 : ℝ) ^ ((n : ℤ) - 127) ≤ 2 ^ (0 : ℤ) := zpow_le_zpow_right₀ (by norm_num) (by omega)
  rw [zpow_zero] at this
  linarith

/-- The reference's choice of exponent: its scale covers the block. -/
theorem ref_scale (a : ℝ) (ha : 0 < a) : a ≤ 448 * Real.rpow 2 ((⌊Real.log (a * c448) / Real.log 2⌋ : ℝ) + 1) := by
  have hv : 0 < a * c448 := mul_pos ha c448_pos
  have hl2 : 0 < Real.log 2 := Real.log_pos (by norm_num)
  have h1 : Real.log (a * c448) / Real.log 2 < (⌊Real.log (a * c448) / Real.log 2⌋ : ℝ) + 1 := Int.lt_floor_add_one _
  have h2 : Real.log (a * c448) < ((⌊Real.log (a * c448) / Real.log 2⌋ : ℝ) + 1) * Real.log 2 := (div_lt_iff₀ hl2).mp h1
  have h3 : a * c448 ≤ Real.rpow 2 ((⌊Real.log (a * c448) / Real.log 2⌋ : ℝ) + 1) := by
    show a * c448 ≤ (2 : ℝ) ^ ((⌊Real.log (a * c448) / Real.log 2⌋ : ℝ) + 1)
    rw [Real.rpow_def_of_pos (by norm_num : (0 : ℝ) < 2)]
    refine (Real.exp_log hv).symm.le.trans (Real.exp_le_exp.mpr ?_)
    linarith
  have hk : a ≤ 448 * (a * c448) := by nlinarith [c448_ge]
  linarith

theorem coe_max' (x y : ℝ) : ((max x y : ℝ) : EReal) = max (x : EReal) (y : EReal) := EReal.coe_strictMono.monotone.map_max
theorem coe_min' (x y : ℝ) : ((min x y : ℝ) : EReal) = min (x : EReal) (y : EReal) := EReal.coe_strictMono.monotone.map_min

theorem absf_coe (r : ℝ) : FloatOps.absf (F := Ideal) (φ := .f32) (r : EReal) = ((|r| : ℝ) : EReal) := by
  show max (r : EReal) (-(r : EReal)) = _
  rw [abs_eq_max_neg, coe_max', EReal.coe_neg]

/-- What the precondition says of a token's entry. -/
theorem finite_of_le (x : EReal) (h : FloatOps.cmpf (F := Ideal) (φ := .f32) .ole (max x (-x)) (Ideal.ofBits .f32 0x7F7F0000#32) = 1#1) :
    ∃ r : ℝ, x = (r : EReal) ∧ |r| ≤ 2 ^ 128 := by
  have h1 : max x (-x) ≤ Ideal.ofBits .f32 0x7F7F0000#32 := by
    by_contra hn
    have : FloatOps.cmpf (F := Ideal) (φ := .f32) .ole (max x (-x)) (Ideal.ofBits .f32 0x7F7F0000#32) = 0#1 := by
      show BitVec.ofBool (decide (max x (-x) ≤ Ideal.ofBits .f32 0x7F7F0000#32)) = 0#1
      rw [decide_eq_false hn]; rfl
    rw [this] at h
    exact absurd h (by decide)
  have h2 := h1.trans ofBits_max
  match x, h2 with
  | ⊥, h2 => exact absurd (top_le_iff.mp (EReal.neg_bot.symm.le.trans ((le_max_right _ _).trans h2))) (EReal.coe_ne_top _)
  | ⊤, h2 => exact absurd (top_le_iff.mp ((le_max_left _ _).trans h2)) (EReal.coe_ne_top _)
  | (r : ℝ), h2 =>
    refine ⟨r, rfl, ?_⟩
    have := absf_coe r
    rw [show FloatOps.absf (F := Ideal) (φ := .f32) (r : EReal) = max (r : EReal) (-(r : EReal)) from rfl] at this
    rw [this] at h2
    exact EReal.coe_le_coe_iff.mp h2

/-- The largest magnitude of a block of 128 finite entries. -/
theorem amax_spec (v : Fin 128 → EReal) (hv : ∀ x, ∃ r : ℝ, v x = (r : EReal) ∧ |r| ≤ 2 ^ 128) :
    ∃ a : ℝ, Finset.fold max (Ideal.ofBits .f32 0xFF800000#32) (fun x => FloatOps.absf (F := Ideal) (φ := .f32) (v x)) Finset.univ = (a : EReal)
      ∧ 0 ≤ a ∧ a ≤ 2 ^ 128 ∧ ∀ x, ∀ r : ℝ, v x = (r : EReal) → |r| ≤ a := by
  generalize hM : Finset.fold max (Ideal.ofBits .f32 0xFF800000#32) (fun x => FloatOps.absf (F := Ideal) (φ := .f32) (v x)) Finset.univ = M
  have hle : ∀ x, ∀ r : ℝ, v x = (r : EReal) → ((|r| : ℝ) : EReal) ≤ M := by
    intro x r hr
    rw [← hM, ← absf_coe r, ← hr]
    exact (Finset.le_fold_max _).mpr (Or.inr ⟨x, Finset.mem_univ x, le_rfl⟩)
  have hub : M ≤ ((2 ^ 128 : ℝ) : EReal) := by
    rw [← hM]
    refine (Finset.fold_max_le _).mpr ⟨by rw [ofBits_bot]; exact bot_le, fun x _ => ?_⟩
    obtain ⟨r, hr, hb⟩ := hv x
    show FloatOps.absf (F := Ideal) (φ := .f32) (v x) ≤ _
    rw [hr, absf_coe]
    exact EReal.coe_le_coe_iff.mpr hb
  obtain ⟨r0, hr0, -⟩ := hv 0
  have h0 := hle 0 r0 hr0
  match M, hle, hub, h0 with
  | ⊥, _, _, h0 => exact absurd h0 (by simp)
  | ⊤, _, hub, _ => exact absurd (top_le_iff.mp hub) (EReal.coe_ne_top _)
  | (a : ℝ), hle, hub, h0 =>
    exact ⟨a, rfl, (abs_nonneg r0).trans (EReal.coe_le_coe_iff.mp h0), EReal.coe_le_coe_iff.mp hub,
      fun x r hr => EReal.coe_le_coe_iff.mp (hle x r hr)⟩

/-- How many thresholds a value reaches, as the kernel counts them. -/
def cntW (v : EReal) : BitVec 32 :=
  Finset.fold IntOp.addi (0#32) (fun x : Fin 256 => BitVec.setWidth 32 (FloatOps.cmpf (F := Ideal) (φ := .f32) .oge v
    (Ideal.ofBits .f32 (IntOp.shli ArithUnit.vector (BitVec.ofNat 32 x.val) 23#32)))) Finset.univ

theorem cntW_eq (v : EReal) : cntW v = BitVec.ofNat 32 ((Finset.range 256).filter (fun b => thr b ≤ v)).card := by
  have key : ∀ s : Finset (Fin 256), Finset.fold IntOp.addi (0#32) (fun x : Fin 256 => BitVec.setWidth 32 (FloatOps.cmpf (F := Ideal) (φ := .f32) .oge v
      (Ideal.ofBits .f32 (IntOp.shli ArithUnit.vector (BitVec.ofNat 32 x.val) 23#32)))) s = BitVec.ofNat 32 (∑ x ∈ s, if thr x.val ≤ v then 1 else 0) := by
    intro s
    induction s using Finset.cons_induction with
    | empty => rfl
    | cons a s ha ih =>
      rw [Finset.fold_cons, ih, Finset.sum_cons]
      show BitVec.setWidth 32 (BitVec.ofBool (decide (thr a.val ≤ v))) + _ = _
      by_cases h : thr a.val ≤ v
      · rw [if_pos h, decide_eq_true h, BitVec.ofNat_add]; rfl
      · rw [if_neg h, decide_eq_false h, BitVec.ofNat_add]; rfl
  rw [show cntW v = _ from key Finset.univ, Fin.sum_univ_eq_sum_range (fun b => if thr b ≤ v then 1 else 0) 256, Finset.card_filter]

/-- The kernel's exponent word. -/
def expW (v : EReal) : BitVec 32 :=
  Scalar.select (IntOp.cmpi CmpIPredicate.eq (IntOp.andi (IntOp.subi (cntW v) 1#32) 255#32) 0#32) (0#32)
    (IntOp.subi (IntOp.andi (IntOp.subi (cntW v) 1#32) 255#32) 126#32)

/-- The two scale words of a block, from its exponent word: both are powers of two, and the scale covers the block. -/
theorem expW_spec (a : ℝ) (ha0 : 0 ≤ a) (ha : a ≤ 2 ^ 128) :
    ∃ s t : ℝ, Ideal.ofBits .f32 (IntOp.shli ArithUnit.vector (IntOp.addi (expW ((a : EReal) * ((c448 : ℝ) : EReal))) 127#32) 23#32) = (s : EReal)
      ∧ Ideal.ofBits .f32 (IntOp.shli ArithUnit.vector (IntOp.subi (127#32) (expW ((a : EReal) * ((c448 : ℝ) : EReal)))) 23#32) = (t : EReal)
      ∧ 0 < s ∧ t * s = 1 ∧ a ≤ 448 * s := by
  rw [← EReal.coe_mul]
  obtain ⟨h1, h2, h3, h4⟩ := kernel_scale a ha0 ha _ rfl
  have hc := cntW_eq ((a * c448 : ℝ) : EReal)
  generalize ((Finset.range 256).filter (fun b => thr b ≤ ((a * c448 : ℝ) : EReal))).card = n at h1 h2 h3 h4 hc
  have hsh : ∀ w : BitVec 32, IntOp.shli ArithUnit.vector w 23#32 = w <<< 23 := fun w => rfl
  have hand : IntOp.andi (IntOp.subi (BitVec.ofNat 32 n) 1#32) 255#32 = BitVec.ofNat 32 (n - 1) := by
    have : ∀ k : Fin 248, IntOp.andi (IntOp.subi (BitVec.ofNat 32 (k.val + 1)) 1#32) 255#32 = BitVec.ofNat 32 k.val := by decide
    have e := this ⟨n - 1, by omega⟩
    rwa [show n - 1 + 1 = n by omega] at e
  unfold expW
  rw [hc, hand, hsh, hsh]
  rcases Nat.lt_or_ge n 2 with hn | hn
  · obtain rfl : n = 1 := by omega
    refine ⟨1, 1, ?_, ?_, by norm_num, by norm_num, by linarith [h3 rfl]⟩
    · rw [show IntOp.addi (Scalar.select (IntOp.cmpi CmpIPredicate.eq (BitVec.ofNat 32 (1 - 1)) 0#32) (0#32)
        (IntOp.subi (BitVec.ofNat 32 (1 - 1)) 126#32)) 127#32 = BitVec.ofNat 32 127 from by decide, ofBits_pow 127 (by omega) (by omega)]
      norm_num
    · rw [show IntOp.subi 127#32 (Scalar.select (IntOp.cmpi CmpIPredicate.eq (BitVec.ofNat 32 (1 - 1)) 0#32) (0#32)
        (IntOp.subi (BitVec.ofNat 32 (1 - 1)) 126#32)) = BitVec.ofNat 32 127 from by decide, ofBits_pow 127 (by omega) (by omega)]
      norm_num
  · have hsel : Scalar.select (IntOp.cmpi CmpIPredicate.eq (BitVec.ofNat 32 (n - 1)) 0#32) (0#32)
        (IntOp.subi (BitVec.ofNat 32 (n - 1)) 126#32) = IntOp.subi (BitVec.ofNat 32 (n - 1)) 126#32 := by
      have : ∀ k : Fin 247, Scalar.select (IntOp.cmpi CmpIPredicate.eq (BitVec.ofNat 32 (k.val + 1)) 0#32) (0#32)
        (IntOp.subi (BitVec.ofNat 32 (k.val + 1)) 126#32) = IntOp.subi (BitVec.ofNat 32 (k.val + 1)) 126#32 := by decide
      have e := this ⟨n - 2, by omega⟩
      rwa [show n - 2 + 1 = n - 1 by omega] at e
    rw [hsel]
    have e1 : IntOp.addi (IntOp.subi (BitVec.ofNat 32 (n - 1)) 126#32) 127#32 = BitVec.ofNat 32 n := by
      have : ∀ k : Fin 248, IntOp.addi (IntOp.subi (BitVec.ofNat 32 k.val) 126#32) 127#32 = BitVec.ofNat 32 (k.val + 1) := by decide
      have e := this ⟨n - 1, by omega⟩
      rwa [show n - 1 + 1 = n by omega] at e
    have e2 : IntOp.subi 127#32 (IntOp.subi (BitVec.ofNat 32 (n - 1)) 126#32) = BitVec.ofNat 32 (254 - n) := by
      have : ∀ k : Fin 248, IntOp.subi 127#32 (IntOp.subi (BitVec.ofNat 32 k.val) 126#32) = BitVec.ofNat 32 (253 - k.val) := by decide
      have e := this ⟨n - 1, by omega⟩
      rwa [show 253 - (n - 1) = 254 - n by omega] at e
    rw [e1, e2, ofBits_pow n (by omega) (by omega), ofBits_pow (254 - n) (by omega) (by omega)]
    refine ⟨_, _, rfl, rfl, by positivity, ?_, h4 hn⟩
    rw [← zpow_add₀ (by norm_num)]
    rw [show ((254 - n : ℕ) : ℤ) - 127 + ((n : ℤ) - 127) = 0 by omega, zpow_zero]

/-- Dividing by the scale, clipping and multiplying back, over the extended reals. -/
theorem clip_coe (x s t : ℝ) (hs : 0 < s) (ht : t * s = 1) (hx : |x| ≤ 448 * s) :
    min (Ideal.ofBits .f32 0x43E00000#32) (max (Ideal.ofBits .f32 0xC3E00000#32) ((x : EReal) * (t : EReal))) * (s : EReal) = (x : EReal) := by
  rw [ofBits_448, ofBits_neg448, ← EReal.coe_mul, ← coe_max', ← coe_min', ← EReal.coe_mul, clip_id x s t hs ht hx]

end Cert.Quant

end
-- ==== Proof.QuantKernel.lean ====
/- The kernel's quantiser over the reals: on finite tokens it gives the tokens back. -/
module

public import proofs.«01_k».proof.Proof.BodyIdeal
public import proofs.«01_k».proof.Proof.Quant
public import Idealize.ShloMosaic.Lib.Pointwise.Tactic
public import Idealize.ShloMosaic.Lib.Pointwise.Reduce
public import Idealize.ShloMosaic.Lib.Pointwise.ReduceUnfold
public import Idealize.ShloMosaic.Lib.Pointwise.Reshape

@[expose] public section

set_option maxRecDepth 16384
set_option backward.isDefEq.respectTransparency.types false

noncomputable section

namespace Cert.KernelIdeal.Gen

open Idealize.ShloMosaic Idealize.ShloMosaic.TcCoe Cert.Quant

theorem pay4_apply (v : Vec Ideal S512x128 .bf16) (r : Fin 512) :
    k0_pay4 v (ix2 r 0) = expW ((Finset.univ : Finset (Fin 128)).fold max (Ideal.ofBits .f32 0xFF800000#32)
      (fun x => FloatOps.absf (F := Ideal) (φ := .f32) (v (ix2 r x))) * Ideal.ofBits .f32 0x3B124925#32) := by
  pointwise [k0_pay4, k0_pay3, expW, cntW]

theorem qd_apply (v : Vec Ideal S512x128 .bf16) (i : S512x128.Idx) :
    qd v i = min (Ideal.ofBits .f32 0x43E00000#32) (max (Ideal.ofBits .f32 0xC3E00000#32)
      (v i * Ideal.ofBits .f32 (IntOp.shli ArithUnit.vector (IntOp.subi (127#32) (k0_pay4 v (ix2 (i 0) 0))) 23#32)))
      * Ideal.ofBits .f32 (IntOp.shli ArithUnit.vector (IntOp.addi (k0_pay4 v (ix2 (i 0) 0)) 127#32) 23#32) := by
  pointwise [qd, k0_pay7, k0_pay6, k0_pay5, k0_pay3]

/-- On finite tokens the kernel's quantiser is the identity over the reals. -/
theorem qd_id (v : Vec Ideal S512x128 .bf16) (hv : ∀ i, ∃ r : ℝ, v i = (r : EReal) ∧ |r| ≤ 2 ^ 128) : qd v = v := by
  funext i
  rw [qd_apply, show k0_pay4 v (ix2 (i 0) 0) = _ from pay4_apply v (i 0)]
  obtain ⟨a, ha, ha0, ha1, hb⟩ := amax_spec (fun x : Fin 128 => v (ix2 (i 0) x)) (fun x => hv _)
  obtain ⟨s, t, hs, ht, hs0, hts, hcov⟩ := expW_spec a ha0 ha1
  obtain ⟨r, hr, -⟩ := hv i
  have hidx : (ix2 (i 0) (i 1) : S512x128.Idx) = i := (eq_ix2 i).symm
  have hrb : |r| ≤ a := hb (i 1) r (by rw [← hr]; exact congrArg v hidx)
  refine Eq.trans ?_ ((clip_coe r s t hs0 hts (hrb.trans hcov)).trans hr.symm)
  rw [← hs, ← ht, ← ha, ← hr, ofBits_c]

theorem lhsQ_id (x : Vec Ideal S512x2048 .bf16) (hx : ∀ i, ∃ r : ℝ, x i = (r : EReal) ∧ |r| ≤ 2 ^ 128) : lhsQ x = x := by
  funext y
  unfold lhsQ
  refine (congrFun (qd_id _ (fun i => hx ((Rect.unit (s := S512x2048) ![0, 128 * ((y 1).val / 128)] ![512, 128] (col_inb _ (by have := y1_lt y; omega))).idx i))) _).trans ?_
  pointwise []
  refine congrArg x (funext fun a => Fin.ext ?_)
  match a with
  | ⟨0, _⟩ => rfl
  | ⟨1, _⟩ => show 128 * ((y 1).val / 128) + (y 1).val % 128 = (y 1).val; omega

end Cert.KernelIdeal.Gen

end
-- ==== Proof.WeightKernel.lean ====
/- The kernel's products over the reals: each is the sum of tokens times scaled weights. -/
module

public import proofs.«01_k».proof.Proof.BodyIdeal
public import Idealize.ShloMosaic.Lib.Pointwise.Tactic
public import Idealize.ShloMosaic.Lib.Pointwise.Contract
public import Idealize.ShloMosaic.Lib.Pointwise.Select
public import Idealize.ShloMosaic.Lib.Pointwise.Reshape
public import Idealize.ShloMosaic.Lib.MatmulPlain

@[expose] public section

set_option maxRecDepth 16384

noncomputable section

namespace Cert.KernelIdeal.Gen

open Idealize.ShloMosaic Idealize.ShloMosaic.TcCoe

/-- One entry of the scaled weights. -/
def sw (x1 : Vec Ideal S1x2048x2048 .fp8e4m3) (x2 : Vec Ideal S1x16x16 .f32) (k n : ℕ) (hk : k < 2048) (hn : n < 2048) : EReal :=
  x1 (ix3 0 ⟨k, hk⟩ ⟨n, hn⟩) * x2 (ix3 0 ⟨k / 128, by show _ < 16; omega⟩ ⟨n / 128, by show _ < 16; omega⟩)

theorem sw_congr (x1 : Vec Ideal S1x2048x2048 .fp8e4m3) (x2 : Vec Ideal S1x16x16 .f32) (k n k' n' : ℕ) (hk : k < 2048) (hn : n < 2048) (hk' : k' < 2048) (hn' : n' < 2048)
    (e : k = k') (e' : n = n') : sw x1 x2 k n hk hn = sw x1 x2 k' n' hk' hn' := by
  subst e e'; rfl

theorem rblk_apply (x1 : Vec Ideal S1x2048x2048 .fp8e4m3) (x2 : Vec Ideal S1x16x16 .f32) (k j : Nat) (hk : k < 16) (hj : j < 8) (i : S128x256.Idx)
    (h0 : 128 * k + (i 0).val < 2048) (h1 : 256 * j + (i 1).val < 2048) :
    rblk x1 x2 k j hk hj i = sw x1 x2 (128 * k + (i 0).val) (256 * j + (i 1).val) h0 h1 := by
  pointwise [rblk, k0_pay1]
  have hi : (i 1).val < 256 := (i 1).isLt
  have hi0 : (i 0).val < 128 := (i 0).isLt
  split
  · rename_i h
    refine Eq.trans ?_ (sw_congr x1 x2 (128 * k + (i 0).val) (128 * (2 * j) + (i 1).val) _ _ (by omega) (by omega) h0 h1 rfl (by omega))
    unfold sw
    refine congrArg (x1 _ * ·) (congrArg x2 ?_)
    exact congr (congrArg (ix3 0) (Fin.ext (by show k = (128 * k + (i 0).val) / 128; omega))) (Fin.ext (by show 2 * j = (128 * (2 * j) + (i 1).val) / 128; omega))
  · rename_i h
    refine Eq.trans ?_ (sw_congr x1 x2 (128 * k + (i 0).val) (128 * (2 * j + 1) + ((i 1).val - 128)) _ _ (by omega) (by omega) h0 h1 rfl (by omega))
    unfold sw
    refine congrArg (x1 _ * ·) (congrArg x2 ?_)
    exact congr (congrArg (ix3 0) (Fin.ext (by show k = (128 * k + (i 0).val) / 128; omega))) (Fin.ext (by show 2 * j + 1 = (128 * (2 * j + 1) + ((i 1).val - 128)) / 128; omega))

theorem rhsQ_apply (x1 : Vec Ideal S1x2048x2048 .fp8e4m3) (x2 : Vec Ideal S1x16x16 .f32) (j : Nat) (hj : j < 8) (i : S2048x256.Idx)
    (h0 : (i 0).val < 2048) (h1 : 256 * j + (i 1).val < 2048) :
    rhsQ x1 x2 j hj i = sw x1 x2 (i 0).val (256 * j + (i 1).val) h0 h1 := by
  have hz0 : (i 0).val % 128 < 128 := Nat.mod_lt _ (by omega)
  have e := concatenate_ofFn_apply (t := S2048x256) (s₁ := S128x256) 0 (fun n : Fin 16 => rblk x1 x2 n.val j n.isLt hj)
    (by simpa [List.ofFn_succ] using concatenates_S128x256_S128x256_S128x256_S128x256_S128x256_S128x256_S128x256_S128x256_S128x256_S128x256_S128x256_S128x256_S128x256_S128x256_S128x256_S128x256_S2048x256_d0)
    rfl 128 rfl i ⟨(i 0).val / 128, by omega⟩ rfl (ix2 ⟨(i 0).val % 128, hz0⟩ (i 1)) rfl (fun b hb => by
      match b, hb with
      | ⟨0, _⟩, hb => exact absurd rfl hb
      | ⟨1, _⟩, _ => rfl)
  refine Eq.trans ?_ (e.trans ((rblk_apply x1 x2 ((i 0).val / 128) j (by omega) hj (ix2 ⟨(i 0).val % 128, hz0⟩ (i 1)) (by show 128 * ((i 0).val / 128) + (i 0).val % 128 < 2048; omega) h1).trans
    (sw_congr _ _ _ _ _ _ _ _ _ _ (by show 128 * ((i 0).val / 128) + (i 0).val % 128 = _; omega) rfl)))
  rfl

theorem prodQ_apply (x1 : Vec Ideal S1x2048x2048 .fp8e4m3) (x2 : Vec Ideal S1x16x16 .f32) (lhs : Vec Ideal S512x2048 .bf16) (y : S512x2048.Idx) :
    prodQ x1 x2 lhs y = ∑ k : Fin 2048, lhs (ix2 (y 0) k) * sw x1 x2 k.val (y 1).val k.isLt (y1_lt y) := by
  have hy := y1_lt y
  have e := Ideal.matmul_plain_apply (M := 512) (K := 2048) (N := 256) (φ₁ := .bf16) (φ₂ := .bf16) none lhs (rhsQ x1 x2 ((y 1).val / 256) (by omega))
    (constant S512x256 .f32 0x00000000#32) (y 0) ⟨(y 1).val % 256, Nat.mod_lt _ (by omega)⟩
  have hloc : loc256 y = ValueIdx.ix2 (y 0) ⟨(y 1).val % 256, Nat.mod_lt _ (by omega)⟩ := by
    funext a
    match a with
    | ⟨0, _⟩ => rfl
    | ⟨1, _⟩ => rfl
  unfold prodQ
  rw [hloc]
  refine Eq.trans e ?_
  rw [show (constant S512x256 .f32 0x00000000#32 : FVec Ideal S512x256 .f32) (ValueIdx.ix2 (y 0) ⟨(y 1).val % 256, Nat.mod_lt _ (by omega)⟩) = 0 from Ideal.ofBits_zero_f32, zero_add]
  refine Finset.sum_congr rfl fun k _ => congrArg (lhs (ix2 (y 0) k) * ·) ?_
  refine (rhsQ_apply x1 x2 _ _ (ValueIdx.ix2 k ⟨(y 1).val % 256, Nat.mod_lt _ (by omega)⟩) k.isLt (by show 256 * ((y 1).val / 256) + (y 1).val % 256 < 2048; omega)).trans ?_
  exact sw_congr _ _ _ _ _ _ _ _ _ _ rfl (by show 256 * ((y 1).val / 256) + (y 1).val % 256 = _; omega)

end Cert.KernelIdeal.Gen

end
-- ==== Proof.RefBody.lean ====
/- What the reference's body leaves: the masked products of the sixteen groups, one after another. -/
module

public import proofs.«01_k».proof.Proof.Gen.ReferenceIdeal.Value
public import Idealize.ShloMosaic.Lib.Pipeline.Value
public import Idealize.ShloMosaic.Lib.Tactic.Stretches

@[expose] public section

set_option maxRecDepth 16384

noncomputable section

namespace Cert.ReferenceIdeal.Gen

open Idealize.ShloMosaic Idealize.ShloMosaic.TcCoe Idealize.ShloMosaic.Tactic

variable {F : FTy → Type} [FloatOps F]

/-- The scaled weights of one group. -/
def refW (w : Vec F S1x2048x2048 .fp8e4m3) (s : Vec F S1x16x16 .f32) : FVec F S2048x2048 .bf16 :=
  shapeCast S2048x2048 (mulf (shapeCast S16x128x16x128 (extf .bf16 (shapeCast S2048x2048 w shapeCasts_S1x2048x2048_S2048x2048) bitsLt_fp8e4m3_bf16) shapeCasts_S2048x2048_S16x128x16x128)
    (broadcastTo S16x128x16x128 (shapeCast S16x1x16x1 (truncf .bf16 (shapeCast S16x16 s shapeCasts_S1x16x16_S16x16) bitsLt_bf16_f32) shapeCasts_S16x16_S16x1x16x1) broadcasts_S16x1x16x1_S16x128x16x128)) shapeCasts_S16x128x16x128_S2048x2048

/-- The products of all tokens with the scaled weights of one group. -/
def refDot (lhs : FVec F S16384x2048 .bf16) (w : Vec F S1x2048x2048 .fp8e4m3) (s : Vec F S1x16x16 .f32) : FVec F S16384x2048 .f32 :=
  matmul dot_S16384x2048_S2048x2048_S16384x2048_1_0_0_1_n_n none lhs (refW w s) (constant S16384x2048 .f32 0x00000000#32)

/-- The rows of one group. -/
def refMask (a b : BitVec 32) : IVec S16384x2048 1 :=
  andi (cmpi .sge (iota .tc S16384x2048 32 [0] iota_S16384x2048_d0_w32) (broadcast S16384x2048 a)) (cmpi .slt (iota .tc S16384x2048 32 [0] iota_S16384x2048_d0_w32) (broadcast S16384x2048 b))

/-- One group's step: its rows take its products, the others are kept. -/
def stepT (lhs : FVec F S16384x2048 .bf16) (w : Vec F S1x2048x2048 .fp8e4m3) (s : Vec F S1x16x16 .f32) (a b : BitVec 32) (acc : FVec F S16384x2048 .f32) : FVec F S16384x2048 .f32 :=
  select (refMask a b) (refDot lhs w s) acc

theorem wld_inb (g : ℕ) (h : g < 16) : ∀ a : Fin S16x2048x2048.rank, (![g, 0, 0] : Fin 3 → Nat) a + (![1, 2048, 2048] : Fin 3 → Nat) a ≤ S16x2048x2048.size a := by
  intro a
  match a with
  | ⟨0, _⟩ => show g + 1 ≤ 16; omega
  | ⟨1, _⟩ => show 0 + 2048 ≤ 2048; omega
  | ⟨2, _⟩ => show 0 + 2048 ≤ 2048; omega

theorem sld_inb (g : ℕ) (h : g < 16) : ∀ a : Fin S16x16x16.rank, (![g, 0, 0] : Fin 3 → Nat) a + (![1, 16, 16] : Fin 3 → Nat) a ≤ S16x16x16.size a := by
  intro a
  match a with
  | ⟨0, _⟩ => show g + 1 ≤ 16; omega
  | ⟨1, _⟩ => show 0 + 16 ≤ 16; omega
  | ⟨2, _⟩ => show 0 + 16 ≤ 16; omega

theorem tld_inb (g : ℕ) (h : g < 16) : ∀ a : Fin S16.rank, (![g] : Fin 1 → Nat) a + (![1] : Fin 1 → Nat) a ≤ S16.size a := by
  intro a
  match a with
  | ⟨0, _⟩ => show g + 1 ≤ 16; omega

/-- The weights of one group. -/
def wld (x3 : Vec F S16x2048x2048 .fp8e4m3) (g : ℕ) (h : g < 16) : Vec F S1x2048x2048 .fp8e4m3 :=
  View.ld x3 (Rect.unit (s := S16x2048x2048) ![g, 0, 0] ![1, 2048, 2048] (wld_inb g h))

/-- The scales of one group. -/
def sld (x4 : Vec F S16x16x16 .f32) (g : ℕ) (h : g < 16) : Vec F S1x16x16 .f32 :=
  View.ld x4 (Rect.unit (s := S16x16x16) ![g, 0, 0] ![1, 16, 16] (sld_inb g h))

/-- One entry of a table of sixteen. -/
def tld (x : Vec F S16 .i32) (g : ℕ) (h : g < 16) : BitVec 32 :=
  View.ld x (Rect.unit (s := S16) ![g] ![1] (tld_inb g h)) (Shape.Idx.first (numel1_S1.symm ▸ Nat.one_pos))

/-- One group's step, of the whole arrays. -/
def stepG (x0 : FVec F S16384x2048 .bf16) (x1 x2 : Vec F S16 .i32) (x3 : Vec F S16x2048x2048 .fp8e4m3) (x4 : Vec F S16x16x16 .f32) (g : ℕ) (h : g < 16) (acc : FVec F S16384x2048 .f32) : FVec F S16384x2048 .f32 :=
  stepT x0 (wld x3 g h) (sld x4 g h) (tld x1 g h) (tld x2 g h) acc

/-- The accumulator after the first groups. -/
def accG (x0 : FVec F S16384x2048 .bf16) (x1 x2 : Vec F S16 .i32) (x3 : Vec F S16x2048x2048 .fp8e4m3) (x4 : Vec F S16x16x16 .f32) : (g : ℕ) → g ≤ 16 → FVec F S16384x2048 .f32
  | 0, _ => k0_pay3
  | g + 1, h => stepG x0 x1 x2 x3 x4 g (by omega) (accG x0 x1 x2 x3 x4 g (by omega))

/-- The reference's result. -/
def refOut (x0 : Vec F S16384x2048 .bf16) (x1 x2 : Vec F S16 .i32) (x3 : Vec F S16x2048x2048 .fp8e4m3) (x4 : Vec F S16x16x16 .f32) : Vec F S16384x2048 .bf16 :=
  truncf .bf16 (accG (k0_pay2 x0) x1 x2 x3 x4 16 (by omega)) bitsLt_bf16_f32

variable (c : Dev nD) (arg0 : Memref sig .tc .vmem S16384x2048 .bf16) (h0 : arg0.IsWhole) (arg1 : Memref sig .tc .smem S16 .i32) (h1 : arg1.IsWhole) (arg2 : Memref sig .tc .smem S16 .i32) (h2 : arg2.IsWhole)
  (arg3 : Memref sig .tc .vmem S16x2048x2048 .fp8e4m3) (h3 : arg3.IsWhole) (arg4 : Memref sig .tc .vmem S16x16x16 .f32) (h4 : arg4.IsWhole) (arg5 : Memref sig .tc .vmem S16384x2048 .bf16) (h5 : arg5.IsWhole)
  (x0 : Vec F S16384x2048 .bf16) (x1 x2 : Vec F S16 .i32) (x3 : Vec F S16x2048x2048 .fp8e4m3) (x4 : Vec F S16x16x16 .f32)

theorem ld_whole (x : Vec F S16384x2048 .bf16) (inb) : View.ld x (Rect.unit (s := S16384x2048) ![0, 0] ![16384, 2048] inb) = x :=
  View.ld_unit_zero (S := S16384x2048) (off := ![0, 0]) (by funext a; match a with | ⟨0, _⟩ => rfl | ⟨1, _⟩ => rfl) _ _

theorem read_writes_one {sig : RefSig} {κ : Kind} {sp : Space} {s : Shape} {e : EltTy} (v : View sig κ sp s e) (f : v.ty.Contents (Elt F)) (L : List (View.Piece (Elt F) s e))
    (G : s.Idx → Elt F e) (hp : ∀ p ∈ L, ∀ z, p.2 z = G (p.1.emb z)) (hc : ∀ y, ∃ p ∈ L, y ∈ p.1.set) : v.read (Elt F) (v.writes (Elt F) f L) = G :=
  (View.read_writes_eq_canon v f L hc).trans (funext fun y => View.canon_apply_of_pieces G L hp y (hc y))

set_option maxHeartbeats 1000000 in
theorem out_eq : out0_A_5 c arg0 h0 arg1 h1 arg2 h2 arg3 h3 arg4 h4 arg5 h5 x0 x1 x2 x3 x4 = refOut x0 x1 x2 x3 x4 := by
  have e : refOut x0 x1 x2 x3 x4 = refOut (View.ld (arg0.view.read (Elt F) (h0.unread x0)) (Rect.unit (s := S16384x2048) ![0, 0] ![16384, 2048] inb_S16384x2048_S16384x2048_0_0)) (arg1.view.read (Elt F) (h1.unread x1)) (arg2.view.read (Elt F) (h2.unread x2))
      (arg3.view.read (Elt F) (h3.unread x3)) (arg4.view.read (Elt F) (h4.unread x4)) := by
    rw [h0.read_unread, h1.read_unread, h2.read_unread, h3.read_unread, h4.read_unread, ld_whole]
  rw [e]
  unfold out0_A_5
  refine read_writes_one VO0_5 _ _ _ ?_ (cover0_A_5 c arg0 h0 arg1 h1 arg2 h2 arg3 h3 arg4 h4 arg5 h5 x0 x1 x2 x3 x4)
  unfold kernelRun0_A
  dsimp only
  simp only [List.forall_mem_cons, List.not_mem_nil, false_imp_iff, implies_true, and_true]
  intro z
  have hz : (Rect.unit (s := S16384x2048) ![0, 0] ![16384, 2048] inb_S16384x2048_S16384x2048_0_0).emb z = z := by
    funext a
    refine Fin.ext ?_
    rw [Rect.emb_apply]
    match a with
    | ⟨0, _⟩ => show 0 + 1 * (z 0).val = (z 0).val; omega
    | ⟨1, _⟩ => show 0 + 1 * (z 1).val = (z 1).val; omega
  refine Eq.trans ?_ (congrArg _ hz.symm)
  refine congrFun ?_ z
  rfl

end Cert.ReferenceIdeal.Gen

end
-- ==== Proof.QuantRef.lean ====
/- The reference's quantiser over the reals: on finite tokens it gives the tokens back. -/
module

public import proofs.«01_k».proof.Proof.Gen.ReferenceIdeal.Value
public import proofs.«01_k».proof.Proof.Quant
public import Idealize.ShloMosaic.Lib.Pointwise.Tactic
public import Idealize.ShloMosaic.Lib.Pointwise.Reduce
public import Idealize.ShloMosaic.Lib.Pointwise.ReduceUnfold
public import Idealize.ShloMosaic.Lib.Pointwise.Reshape

@[expose] public section

set_option maxRecDepth 16384

noncomputable section

namespace Cert.ReferenceIdeal.Gen

open Idealize.ShloMosaic Idealize.ShloMosaic.TcCoe Cert.Quant

theorem split_apply (v : FVec Ideal S16384x2048 .f32) (i : S16384x16x128.Idx) : shapeCast S16384x16x128 v shapeCasts_S16384x2048_S16384x16x128 i = v (ix2 (i 0) ⟨(i 1).val * 128 + (i 2).val, by have h1 : (i 1).val < 16 := (i 1).isLt; have h2 : (i 2).val < 128 := (i 2).isLt; show _ < 2048; omega⟩) := by
  pointwise []

theorem unit_apply (v : FVec Ideal S16384x16 .f32) (i : S16384x16x1.Idx) : shapeCast S16384x16x1 v shapeCasts_S16384x16_S16384x16x1 i = v (ix2 (i 0) (i 1)) := by
  pointwise []

theorem spread_apply {φ : FTy} (v : FVec Ideal S16384x16x1 φ) (i : S16384x16x128.Idx) : broadcastTo S16384x16x128 v broadcasts_S16384x16x1_S16384x16x128 i = v (ix3 (i 0) (i 1) 0) := by
  pointwise []

theorem join_apply (v : FVec Ideal S16384x16x128 .bf16) (i : S16384x2048.Idx) : shapeCast S16384x2048 v shapeCasts_S16384x16x128_S16384x2048 i = v (ix3 (i 0) ⟨(i 1).val / 128, by have h1 : (i 1).val < 2048 := (i 1).isLt; show _ < 16; omega⟩ ⟨(i 1).val % 128, by show _ < 128; omega⟩) := by
  pointwise []

theorem max_apply (v : FVec Ideal S16384x16x128 .f32) (i : S16384x16.Idx) : multiReduction .maximumf [2] S16384x16 v 0xFF800000#32 reduces_S16384x16x128_S16384x16 (.inl rfl) rfl i = (Finset.univ : Finset (Fin 128)).fold max (Ideal.ofBits .f32 0xFF800000#32) (fun x => v (ix3 (i 0) (i 1) x)) := by
  refine (Ideal.multiReduction_maximumf_single v 0xFF800000#32 reduces_S16384x16x128_S16384x16 (.inl rfl) rfl i).trans ?_
  refine congrArg (fun f => Finset.fold max _ f Finset.univ) (funext fun x => congrArg v (funext fun a => Fin.ext ?_))
  match a with
  | ⟨0, _⟩ => rfl
  | ⟨1, _⟩ => rfl
  | ⟨2, _⟩ => rfl

/-- The exponent of a block from its largest magnitude. -/
def expR (M : EReal) : EReal :=
  Scalar.select (FloatOps.cmpf (F := Ideal) (φ := .f32) .oeq M (Ideal.ofBits .f32 0x00000000#32)) (Ideal.ofBits .f32 0x00000000#32)
    (Ideal.liftRound Int.floor (Ideal.div (Ideal.log (M * Ideal.ofBits .f32 0x3B124925#32)) (Ideal.log (Ideal.ofBits .f32 0x40000000#32))) + Ideal.ofBits .f32 0x3F800000#32)

/-- The largest magnitude of each block. -/
def maxR (v : Vec Ideal S16384x2048 .bf16) : FVec Ideal S16384x16x1 .f32 :=
  shapeCast S16384x16x1 (multiReduction .maximumf [2] S16384x16 (absf (shapeCast S16384x16x128 (extf (F := Ideal) .f32 v bitsLt_bf16_f32) shapeCasts_S16384x2048_S16384x16x128)) 0xFF800000#32 reduces_S16384x16x128_S16384x16 (.inl rfl) rfl) shapeCasts_S16384x16_S16384x16x1

theorem maxR_apply (v : Vec Ideal S16384x2048 .bf16) (i : S16384x16x1.Idx) :
    maxR v i = (Finset.univ : Finset (Fin 128)).fold max (Ideal.ofBits .f32 0xFF800000#32)
      (fun x => FloatOps.absf (F := Ideal) (φ := .f32) (v (ix2 (i 0) ⟨(i 1).val * 128 + x.val, by have h1 : (i 1).val < 16 := (i 1).isLt; have h2 : x.val < 128 := x.isLt; show _ < 2048; omega⟩))) := by
  unfold maxR
  rw [unit_apply, max_apply]
  refine congrArg (fun f => Finset.fold max _ f Finset.univ) (funext fun x => ?_)
  exact congrArg (FloatOps.absf (F := Ideal) (φ := .f32)) (split_apply _ _)

/-- The exponent of each block. -/
def expV (m : FVec Ideal S16384x16x1 .f32) : FVec Ideal S16384x16x1 .f32 :=
  select (cmpf .oeq m (broadcast S16384x16x1 (Scalar.ofBits .f32 0x00000000#32 : Ideal .f32))) (broadcast S16384x16x1 (Scalar.ofBits .f32 0x00000000#32 : Ideal .f32))
    (addf (floor (divf (log (mulf m (broadcast S16384x16x1 (Scalar.ofBits .f32 0x3B124925#32 : Ideal .f32)))) (log (broadcast S16384x16x1 (Scalar.ofBits .f32 0x40000000#32 : Ideal .f32)))))
      (broadcast S16384x16x1 (Scalar.ofBits .f32 0x3F800000#32 : Ideal .f32)))

theorem expV_apply (m : FVec Ideal S16384x16x1 .f32) (k : S16384x16x1.Idx) : expV m k = expR (m k) := rfl

/-- The blocks, scaled, clipped and scaled back. -/
def backV (v : FVec Ideal S16384x16x128 .f32) (e : FVec Ideal S16384x16x1 .f32) : FVec Ideal S16384x16x128 .bf16 :=
  mulf (extf .bf16 (truncf .fp8e4m3 (minimumf (broadcast S16384x16x128 (Scalar.ofBits .f32 0x43E00000#32 : Ideal .f32)) (maximumf (broadcast S16384x16x128 (Scalar.ofBits .f32 0xC3E00000#32 : Ideal .f32))
    (mulf v (broadcastTo S16384x16x128 (exp2 (subf (broadcast S16384x16x1 (Scalar.ofBits .f32 0x00000000#32 : Ideal .f32)) e)) broadcasts_S16384x16x1_S16384x16x128)))) bitsLt_fp8e4m3_f32) bitsLt_fp8e4m3_bf16)
    (broadcastTo S16384x16x128 (truncf .bf16 (exp2 e) bitsLt_bf16_f32) broadcasts_S16384x16x1_S16384x16x128)

theorem pay2_eq (v : Vec Ideal S16384x2048 .bf16) :
    k0_pay2 v = shapeCast S16384x2048 (backV (shapeCast S16384x16x128 (extf (F := Ideal) .f32 v bitsLt_bf16_f32) shapeCasts_S16384x2048_S16384x16x128) (expV (maxR v))) shapeCasts_S16384x16x128_S16384x2048 := by
  unfold backV expV maxR
  rfl

theorem backV_apply (v : FVec Ideal S16384x16x128 .f32) (e : FVec Ideal S16384x16x1 .f32) (j : S16384x16x128.Idx) :
    backV v e j = min (Ideal.ofBits .f32 0x43E00000#32) (max (Ideal.ofBits .f32 0xC3E00000#32)
      (v j * Ideal.exp2 (Ideal.ofBits .f32 0x00000000#32 - e (ix3 (j 0) (j 1) 0)))) * Ideal.exp2 (e (ix3 (j 0) (j 1) 0)) := by
  have e1 := spread_apply (φ := .f32) (exp2 (subf (broadcast S16384x16x1 (Scalar.ofBits .f32 0x00000000#32 : Ideal .f32)) e)) j
  have e2 := spread_apply (φ := .bf16) (truncf .bf16 (exp2 e) bitsLt_bf16_f32) j
  show min (Ideal.ofBits .f32 0x43E00000#32) (max (Ideal.ofBits .f32 0xC3E00000#32)
      (v j * broadcastTo S16384x16x128 (exp2 (subf (broadcast S16384x16x1 (Scalar.ofBits .f32 0x00000000#32 : Ideal .f32)) e)) broadcasts_S16384x16x1_S16384x16x128 j))
      * broadcastTo S16384x16x128 (truncf .bf16 (exp2 e) bitsLt_bf16_f32) broadcasts_S16384x16x1_S16384x16x128 j = _
  rw [e1, e2]
  rfl

/-- The two scales of a block of finite entries: they are inverse, and the scale covers the block. -/
theorem expR_spec (a : ℝ) (ha0 : 0 ≤ a) :
    ∃ s t : ℝ, Ideal.exp2 (expR (a : EReal)) = (s : EReal) ∧ Ideal.exp2 (Ideal.ofBits .f32 0x00000000#32 - expR (a : EReal)) = (t : EReal)
      ∧ 0 < s ∧ t * s = 1 ∧ a ≤ 448 * s := by
  have h2 : ∀ e : ℝ, Ideal.exp2 (e : EReal) = ((Real.rpow 2 e : ℝ) : EReal) := fun e => rfl
  have fin : ∀ e : ℝ, expR (a : EReal) = (e : EReal) → a ≤ 448 * Real.rpow 2 e →
      ∃ s t : ℝ, Ideal.exp2 (expR (a : EReal)) = (s : EReal) ∧ Ideal.exp2 (Ideal.ofBits .f32 0x00000000#32 - expR (a : EReal)) = (t : EReal)
        ∧ 0 < s ∧ t * s = 1 ∧ a ≤ 448 * s := by
    intro e he hle
    refine ⟨Real.rpow 2 e, Real.rpow 2 (0 - e), by rw [he, h2], ?_, Real.rpow_pos_of_pos (by norm_num) e, ?_, hle⟩
    · rw [he, Ideal.ofBits_zero_f32, ← h2, EReal.coe_sub, EReal.coe_zero]
    · show (2 : ℝ) ^ (0 - e) * (2 : ℝ) ^ e = 1
      rw [← Real.rpow_add (by norm_num), sub_add_cancel, Real.rpow_zero]
  have hcmp : FloatOps.cmpf (F := Ideal) (φ := .f32) .oeq (a : EReal) (Ideal.ofBits .f32 0x00000000#32) = BitVec.ofBool (decide ((a : EReal) = 0)) := by
    rw [Ideal.ofBits_zero_f32]; rfl
  rcases ha0.eq_or_lt with h | h
  · refine fin 0 ?_ ?_
    · unfold expR
      rw [hcmp, decide_eq_true (by rw [← h]; rfl), Ideal.ofBits_zero_f32]
      rfl
    · rw [← h]
      exact mul_nonneg (by norm_num) (Real.rpow_pos_of_pos (by norm_num) _).le
  · refine fin ((⌊Real.log (a * c448) / Real.log 2⌋ : ℝ) + 1) ?_ (ref_scale a h)
    have hne : (a : EReal) ≠ 0 := by
      rw [← EReal.coe_zero]; exact fun e => h.ne' (EReal.coe_eq_coe_iff.mp e)
    have hl2 : Real.log 2 ≠ 0 := (Real.log_pos (by norm_num)).ne'
    have hlog : ∀ r : ℝ, 0 < r → Ideal.log (r : EReal) = ((Real.log r : ℝ) : EReal) := fun r hr => if_neg (not_le.mpr hr)
    have hdiv : Ideal.div ((Real.log (a * c448) : ℝ) : EReal) ((Real.log 2 : ℝ) : EReal) = ((Real.log (a * c448) / Real.log 2 : ℝ) : EReal) := by
      unfold Ideal.div
      rw [if_neg (by rw [← EReal.coe_zero]; exact fun e => hl2 (EReal.coe_eq_coe_iff.mp e)), ← EReal.coe_inv, ← EReal.coe_mul, div_eq_mul_inv]
    unfold expR
    rw [hcmp, decide_eq_false hne, ofBits_c, ofBits_two, ← EReal.coe_mul, hlog _ (mul_pos h c448_pos), hlog 2 (by norm_num), hdiv,
      Ideal.ofBits_one_f32, EReal.coe_add, EReal.coe_one]
    rfl

/-- On finite tokens the reference's quantiser is the identity over the reals. -/
theorem pay2_id (v : Vec Ideal S16384x2048 .bf16) (hv : ∀ i, ∃ r : ℝ, v i = (r : EReal) ∧ |r| ≤ 2 ^ 128) : k0_pay2 v = v := by
  funext i
  rw [pay2_eq, join_apply, backV_apply, split_apply, expV_apply, maxR_apply]
  have hidx : ∀ (h : (i 1).val / 128 * 128 + (i 1).val % 128 < 2048), (ix2 (i 0) ⟨(i 1).val / 128 * 128 + (i 1).val % 128, h⟩ : S16384x2048.Idx) = i := by
    intro h
    funext a
    match a with
    | ⟨0, _⟩ => rfl
    | ⟨1, _⟩ => exact Fin.ext (by show (i 1).val / 128 * 128 + (i 1).val % 128 = (i 1).val; omega)
  obtain ⟨a, ha, ha0, -, hb⟩ := amax_spec (fun x : Fin 128 => v (ix2 (i 0) ⟨(i 1).val / 128 * 128 + x.val, by have h1 : (i 1).val < 2048 := (i 1).isLt; have h2 : x.val < 128 := x.isLt; show _ < 2048; omega⟩)) (fun x => hv _)
  obtain ⟨s, t, hs, ht, hs0, hts, hcov⟩ := expR_spec a ha0
  obtain ⟨r, hr, -⟩ := hv i
  have hrb : |r| ≤ a := hb ⟨(i 1).val % 128, Nat.mod_lt _ (by omega)⟩ r (by rw [← hr]; exact congrArg v (hidx _))
  refine Eq.trans ?_ ((clip_coe r s t hs0 hts (hrb.trans hcov)).trans hr.symm)
  rw [← hs, ← ht, ← ha, ← hr]
  exact congrArg (fun z => min _ (max _ (z * _)) * _) (congrArg v (hidx _))

end Cert.ReferenceIdeal.Gen

end
-- ==== Proof.RefValue.lean ====
/- The value of the reference, over the reals: each row is its token times the scaled weights of the row's group. -/
module

public import proofs.«01_k».proof.Proof.RefBody
public import proofs.«01_k».proof.Proof.QuantRef
public import proofs.«01_k».proof.Proof.Fill
public import Idealize.ShloMosaic.Lib.MatmulPlain
public import Idealize.ShloMosaic.Lib.Pointwise.Tactic
public import Idealize.ShloMosaic.Lib.Pointwise.Reshape
public import Idealize.ShloMosaic.Lib.Pointwise.Contract
public import Idealize.ShloMosaic.Lib.Pointwise.Select
public import Idealize.ShloMosaic.Lib.Routing.Walk

@[expose] public section

set_option maxRecDepth 16384

noncomputable section

namespace Cert.ReferenceIdeal.Gen

open Idealize.ShloMosaic Idealize.ShloMosaic.TcCoe Idealize.ShloMosaic.Tactic Idealize.ShloMosaic.WordCmp

theorem refW_apply (w : Vec Ideal S1x2048x2048 .fp8e4m3) (s : Vec Ideal S1x16x16 .f32) (i : S2048x2048.Idx) :
    refW w s i = w (ix3 0 (i 0) (i 1)) * s (ix3 0 ⟨(i 0).val / 128, by have : (i 0).val < 2048 := (i 0).isLt; omega⟩ ⟨(i 1).val / 128, by have : (i 1).val < 2048 := (i 1).isLt; omega⟩) := by
  pointwise [refW]

/-- The product of one row with one column of a group's scaled weights. -/
def dotE (lhs : Vec Ideal S16384x2048 .bf16) (x3 : Vec Ideal S16x2048x2048 .fp8e4m3) (x4 : Vec Ideal S16x16x16 .f32) (g : Fin 16) (r : Fin 16384) (n : Fin 2048) : EReal :=
  ∑ k : Fin 2048, lhs (ValueIdx.ix2 r k) * (x3 (ix3 g k n) * x4 (ix3 g ⟨k.val / 128, by omega⟩ ⟨n.val / 128, by omega⟩))

theorem wld_apply (x3 : Vec Ideal S16x2048x2048 .fp8e4m3) (g : ℕ) (h : g < 16) (k n : Fin 2048) : wld x3 g h (ix3 0 k n) = x3 (ix3 ⟨g, h⟩ k n) := by
  unfold wld
  refine congrArg x3 ?_
  funext a
  refine Fin.ext ?_
  match a with
  | ⟨0, _⟩ => rfl
  | ⟨1, _⟩ => show 0 + 1 * k.val = k.val; omega
  | ⟨2, _⟩ => show 0 + 1 * n.val = n.val; omega

theorem sld_apply (x4 : Vec Ideal S16x16x16 .f32) (g : ℕ) (h : g < 16) (k n : Fin 16) : sld x4 g h (ix3 0 k n) = x4 (ix3 ⟨g, h⟩ k n) := by
  unfold sld
  refine congrArg x4 ?_
  funext a
  refine Fin.ext ?_
  match a with
  | ⟨0, _⟩ => rfl
  | ⟨1, _⟩ => show 0 + 1 * k.val = k.val; omega
  | ⟨2, _⟩ => show 0 + 1 * n.val = n.val; omega

theorem tld_apply (x : Vec Ideal S16 .i32) (g : ℕ) (h : g < 16) : tld x g h = x (ix1 ⟨g, h⟩) := by
  unfold tld
  refine congrArg x ?_
  funext a
  refine Fin.ext ?_
  match a with
  | ⟨0, _⟩ => rfl

theorem refDot_apply (lhs : Vec Ideal S16384x2048 .bf16) (x3 : Vec Ideal S16x2048x2048 .fp8e4m3) (x4 : Vec Ideal S16x16x16 .f32) (g : ℕ) (h : g < 16) (r : Fin 16384) (n : Fin 2048) :
    refDot lhs (wld x3 g h) (sld x4 g h) (ValueIdx.ix2 r n) = dotE lhs x3 x4 ⟨g, h⟩ r n := by
  unfold refDot
  have e := Ideal.matmul_plain_apply (M := 16384) (K := 2048) (N := 2048) (φ₁ := .bf16) (φ₂ := .bf16) none lhs (refW (wld x3 g h) (sld x4 g h)) (constant S16384x2048 .f32 0x00000000#32) r n
  refine Eq.trans e ?_
  have z : (constant (F := Ideal) S16384x2048 .f32 0x00000000#32) (ValueIdx.ix2 r n) = 0 := by
    show Ideal.ofBits .f32 0#32 = 0
    exact Ideal.ofBits_zero .f32
  rw [z, zero_add]
  unfold dotE
  refine Finset.sum_congr rfl fun k _ => ?_
  rw [refW_apply]
  refine congrArg _ ?_
  exact congrArg₂ _ (wld_apply x3 g h k n) (sld_apply x4 g h ⟨k.val / 128, by omega⟩ ⟨n.val / 128, by omega⟩)

theorem toInt_small (a : ℕ) (h : a ≤ 16384) : (BitVec.ofNat 32 a).toInt = a := by
  rw [BitVec.toInt_eq_toNat_of_lt (by rw [BitVec.toNat_ofNat]; omega), BitVec.toNat_ofNat]
  omega

theorem refMask_iff (a b : ℕ) (ha : a ≤ 16384) (hb : b ≤ 16384) (r : Fin 16384) (n : Fin 2048) :
    refMask (BitVec.ofNat 32 a) (BitVec.ofNat 32 b) (ValueIdx.ix2 r n) = 1#1 ↔ a ≤ r.val ∧ r.val < b := by
  have hi : iota .tc S16384x2048 32 [0] iota_S16384x2048_d0_w32 (ValueIdx.ix2 r n) = BitVec.ofNat 32 r.val := iota_single_apply _ _ _ _ _ _
  show IntOp.andi (IntOp.cmpi .sge (iota .tc S16384x2048 32 [0] iota_S16384x2048_d0_w32 (ValueIdx.ix2 r n)) (BitVec.ofNat 32 a)) (IntOp.cmpi .slt (iota .tc S16384x2048 32 [0] iota_S16384x2048_d0_w32 (ValueIdx.ix2 r n)) (BitVec.ofNat 32 b)) = 1#1 ↔ _
  rw [hi, IntOp.andi_eq_one, IntOp.cmpi_sge, IntOp.cmpi_slt, toInt_small a ha, toInt_small b hb, toInt_small r.val r.isLt.le]
  omega

theorem accG_apply (x0 : Vec Ideal S16384x2048 .bf16) (x1 x2 : Vec Ideal S16 .i32) (x3 : Vec Ideal S16x2048x2048 .fp8e4m3) (x4 : Vec Ideal S16x16x16 .f32)
    (G : ℕ → ℕ) (hS : Fill.S G 16 = 16384) (h1 : ∀ i : Fin 16, x1 (ix1 i) = BitVec.ofNat 32 (Fill.S G i.val)) (h2 : ∀ i : Fin 16, x2 (ix1 i) = BitVec.ofNat 32 (Fill.S G (i.val + 1)))
    (r : Fin 16384) (n : Fin 2048) (a : ℕ) (ha : a < 16) (b0 : Fill.S G a ≤ r.val) (b1 : r.val < Fill.S G (a + 1)) :
    ∀ (g : ℕ) (hg : g ≤ 16), a < g → accG x0 x1 x2 x3 x4 g hg (ValueIdx.ix2 r n) = dotE x0 x3 x4 ⟨a, ha⟩ r n := by
  intro g
  induction g with
  | zero => intro _ h; omega
  | succ g ih =>
    intro hg hag
    have hg' : g < 16 := by omega
    have hm := refMask_iff (Fill.S G g) (Fill.S G (g + 1)) (Fill.S_le hS (by omega)) (Fill.S_le hS (by omega)) r n
    have e : accG x0 x1 x2 x3 x4 (g + 1) hg (ValueIdx.ix2 r n)
        = Scalar.select (refMask (tld x1 g hg') (tld x2 g hg') (ValueIdx.ix2 r n)) (refDot x0 (wld x3 g hg') (sld x4 g hg') (ValueIdx.ix2 r n)) (accG x0 x1 x2 x3 x4 g (by omega) (ValueIdx.ix2 r n)) := rfl
    rw [e, tld_apply, tld_apply, h1, h2]
    by_cases hc : a = g
    · subst hc
      rw [hm.mpr ⟨b0, b1⟩, select_one, refDot_apply]
    · have : Fill.S G (a + 1) ≤ Fill.S G g := Fill.S_mono (by omega)
      have hz := ValueIdx.eq_zero_of_ne_one (fun h => by have := hm.mp h; omega : ¬ refMask (BitVec.ofNat 32 (Fill.S G g)) (BitVec.ofNat 32 (Fill.S G (g + 1))) (ValueIdx.ix2 r n) = 1#1)
      refine (select_of_eq_zero hz _ _).trans ?_
      exact ih (by omega) (by omega)

/-- The group of a row. -/
theorem row_group (G : ℕ → ℕ) (hS : Fill.S G 16 = 16384) (r : ℕ) (hr : r < 16384) : ∃ a, a < 16 ∧ Fill.S G a ≤ r ∧ r < Fill.S G (a + 1) := by
  have key : ∀ n : ℕ, r < Fill.S G n → ∃ a, a < n ∧ Fill.S G a ≤ r ∧ r < Fill.S G (a + 1) := by
    intro n
    induction n with
    | zero => intro h; exact absurd h (Nat.not_lt_zero _)
    | succ n ih =>
      intro h
      by_cases hc : r < Fill.S G n
      · obtain ⟨a, h0, h1⟩ := ih hc
        exact ⟨a, by omega, h1⟩
      · exact ⟨n, by omega, by omega, h⟩
  exact key 16 (by omega)

theorem refOut_apply (x0 : Vec Ideal S16384x2048 .bf16) (x1 x2 : Vec Ideal S16 .i32) (x3 : Vec Ideal S16x2048x2048 .fp8e4m3) (x4 : Vec Ideal S16x16x16 .f32)
    (hx : ∀ i, ∃ r : ℝ, x0 i = (r : EReal) ∧ |r| ≤ 2 ^ 128)
    (G : ℕ → ℕ) (hS : Fill.S G 16 = 16384) (h1 : ∀ i : Fin 16, x1 (ix1 i) = BitVec.ofNat 32 (Fill.S G i.val)) (h2 : ∀ i : Fin 16, x2 (ix1 i) = BitVec.ofNat 32 (Fill.S G (i.val + 1)))
    (r : Fin 16384) (n : Fin 2048) (a : ℕ) (ha : a < 16) (b0 : Fill.S G a ≤ r.val) (b1 : r.val < Fill.S G (a + 1)) :
    refOut x0 x1 x2 x3 x4 (ValueIdx.ix2 r n) = dotE x0 x3 x4 ⟨a, ha⟩ r n := by
  unfold refOut
  rw [pay2_id x0 hx]
  exact accG_apply x0 x1 x2 x3 x4 G hS h1 h2 r n a ha b0 b1 16 le_rfl ha

end Cert.ReferenceIdeal.Gen

end
-- ==== Proof.RefRun.lean ====
/- The reference's run, over the reals: what its output holds afterwards, of what its arguments held before. -/
module

public import proofs.«01_k».proof.Proof.RefBody
public import proofs.«01_k».proof.Proof.Tables
public import Idealize.ShloMosaic.Lib.StableHlo.RunRead

@[expose] public section

set_option maxRecDepth 16384

noncomputable section

namespace Cert.ReferenceIdeal.Val

open Cert.ReferenceIdeal Cert.ReferenceIdeal.Gen Idealize.ShloMosaic Idealize.ShloMosaic.TcCoe Idealize.ShloMosaic.Tactic Idealize.ShloMosaic.StableHlo Idealize.SL.Sem

section
variable (σ : (b : DevRef τ sig) → b.ty.Contents (Elt Ideal))

theorem l0_v0 : StableHlo.after hostOps0 σ (Proc.devRef .tc main_v0) = Tables.csum (σ (Proc.devRef .tc main_arg1)) := by
  after_reads_simp
  all_goals try simp -implicitDefEqProofs only [StableHlo.TRef.toBuf, StableHlo.TRef.ofBuf, cast_cast, cast_eq]
  all_goals rfl

theorem l0_arg1 : StableHlo.after hostOps0 σ (Proc.devRef .tc main_arg1) = σ (Proc.devRef .tc main_arg1) := by
  after_reads_simp

theorem l1_v1 : StableHlo.after hostOps0_1 σ (Proc.devRef .tc main_v1) = subi (σ (Proc.devRef .tc main_v0)) (σ (Proc.devRef .tc main_arg1)) := by
  after_reads_simp
  all_goals try simp -implicitDefEqProofs only [StableHlo.TRef.toBuf, StableHlo.TRef.ofBuf, cast_cast, cast_eq]
  all_goals rfl

theorem l1_v0 : StableHlo.after hostOps0_1 σ (Proc.devRef .tc main_v0) = σ (Proc.devRef .tc main_v0) := by
  after_reads_simp

end

variable (m : (ℓ : Loc nD τ sig) → Buf (Elt Ideal) ℓ) (ρ : Dev nD → PrngReg)

/-- The group sizes. -/
abbrev gsz (c : Dev nD) : IVec S16 32 := m ((c.tc : Thread nD τ).loc main_arg1)

theorem V_main_v0 (c : Dev nD) : V m c main_v0 = Tables.ends (gsz m c) := by
  show StableHlo.after (List.flatten [hostOps0, hostOps0_1]) (fun b => m (c, b)) (Proc.devRef .tc main_v0) = _
  simp only [List.flatten_cons, List.flatten_nil, List.append_nil, StableHlo.after_append]
  rw [l1_v0, l0_v0]
  rfl

theorem V_main_v1 (c : Dev nD) : V m c main_v1 = Tables.starts (gsz m c) := by
  show StableHlo.after (List.flatten [hostOps0, hostOps0_1]) (fun b => m (c, b)) (Proc.devRef .tc main_v1) = _
  simp only [List.flatten_cons, List.flatten_nil, List.append_nil, StableHlo.after_append]
  rw [l1_v1, l0_v0, l0_arg1]
  rfl

theorem iblk0 (c : Dev nD) (t : Fin cfg0.N) : iblk m c 0 t = m ((c.tc : Thread nD τ).loc main_arg0) := by
  refine funext fun (y : S16384x2048.Idx) => ?_
  have h1 : iblk m c 0 t y = V m c main_arg0 (((cfg0.win 0).rect t).emb y) := rfl
  rw [h1, V_main_arg0]
  refine congrArg (m ((c.tc : Thread nD τ).loc main_arg0)) (funext fun a => Fin.ext ?_)
  refine ((cfg0.win 0).rect_emb_val t y a rfl).trans ?_
  match a with
  | ⟨0, _⟩ => show 0 * 16384 + (y 0).val = (y 0).val; omega
  | ⟨1, _⟩ => show 0 * 2048 + (y 1).val = (y 1).val; omega

theorem iblk1 (c : Dev nD) (t : Fin cfg0.N) : iblk m c 1 t = Tables.starts (gsz m c) := by
  rw [← V_main_v1]
  refine funext fun (y : S16.Idx) => ?_
  have h1 : iblk m c 1 t y = V m c main_v1 (((cfg0.win 1).rect t).emb y) := rfl
  rw [h1]
  refine congrArg (V m c main_v1) (funext fun a => Fin.ext ?_)
  refine ((cfg0.win 1).rect_emb_val t y a rfl).trans ?_
  match a with
  | ⟨0, _⟩ => show 0 * 16 + (y 0).val = (y 0).val; omega

theorem iblk2 (c : Dev nD) (t : Fin cfg0.N) : iblk m c 2 t = Tables.ends (gsz m c) := by
  rw [← V_main_v0]
  refine funext fun (y : S16.Idx) => ?_
  have h1 : iblk m c 2 t y = V m c main_v0 (((cfg0.win 2).rect t).emb y) := rfl
  rw [h1]
  refine congrArg (V m c main_v0) (funext fun a => Fin.ext ?_)
  refine ((cfg0.win 2).rect_emb_val t y a rfl).trans ?_
  match a with
  | ⟨0, _⟩ => show 0 * 16 + (y 0).val = (y 0).val; omega

theorem iblk3 (c : Dev nD) (t : Fin cfg0.N) : iblk m c 3 t = m ((c.tc : Thread nD τ).loc main_arg2) := by
  refine funext fun (y : S16x2048x2048.Idx) => ?_
  have h1 : iblk m c 3 t y = V m c main_arg2 (((cfg0.win 3).rect t).emb y) := rfl
  rw [h1, V_main_arg2]
  refine congrArg (m ((c.tc : Thread nD τ).loc main_arg2)) (funext fun a => Fin.ext ?_)
  refine ((cfg0.win 3).rect_emb_val t y a rfl).trans ?_
  match a with
  | ⟨0, _⟩ => show 0 * 16 + (y 0).val = (y 0).val; omega
  | ⟨1, _⟩ => show 0 * 2048 + (y 1).val = (y 1).val; omega
  | ⟨2, _⟩ => show 0 * 2048 + (y 2).val = (y 2).val; omega

theorem iblk4 (c : Dev nD) (t : Fin cfg0.N) : iblk m c 4 t = m ((c.tc : Thread nD τ).loc main_arg3) := by
  refine funext fun (y : S16x16x16.Idx) => ?_
  have h1 : iblk m c 4 t y = V m c main_arg3 (((cfg0.win 4).rect t).emb y) := rfl
  rw [h1, V_main_arg3]
  refine congrArg (m ((c.tc : Thread nD τ).loc main_arg3)) (funext fun a => Fin.ext ?_)
  refine ((cfg0.win 4).rect_emb_val t y a rfl).trans ?_
  match a with
  | ⟨0, _⟩ => show 0 * 16 + (y 0).val = (y 0).val; omega
  | ⟨1, _⟩ => show 0 * 16 + (y 1).val = (y 1).val; omega
  | ⟨2, _⟩ => show 0 * 16 + (y 2).val = (y 2).val; omega

/-- What the output holds after the run. -/
def outArr (c : Dev nD) : Vec Ideal S16384x2048 .bf16 :=
  refOut (m ((c.tc : Thread nD τ).loc main_arg0)) (Tables.starts (gsz m c)) (Tables.ends (gsz m c)) (m ((c.tc : Thread nD τ).loc main_arg2)) (m ((c.tc : Thread nD τ).loc main_arg3))

theorem flushed_eq (c : Dev nD) (t : Fin cfg0.N) : (dats m 0 c).flushed 5 t = outArr m c := by
  rw [Value.flushed5_A, iblk0, iblk1, iblk2, iblk3, iblk4, out_eq]
  rfl

theorem grid0_pos : 0 < cfg0.N := by decide

theorem read5 (t : Fin cfg0.N) (X : Vec Ideal S16384x2048 .bf16) : ((cfg0.win 5).blk t).view.read (Elt Ideal) X = X := by
  refine funext fun (y : S16384x2048.Idx) => ?_
  have h1 : ((cfg0.win 5).blk t).view.read (Elt Ideal) X y = X (((cfg0.win 5).rect t).emb y) := rfl
  refine h1.trans (congrArg X (funext fun a => Fin.ext ?_))
  refine ((cfg0.win 5).rect_emb_val t y a rfl).trans ?_
  match a with
  | ⟨0, _⟩ => show 0 * 16384 + (y 0).val = (y 0).val; omega
  | ⟨1, _⟩ => show 0 * 2048 + (y 1).val = (y 1).val; omega

theorem arr_eq (c : Dev nD) : (dats m 0 c).arrAt 5 cfg0.N = outArr m c :=
  (read5 ⟨0, grid0_pos⟩ _).symm.trans ((Value.blocks5 m c ⟨0, grid0_pos⟩ (flush0_5 _)).trans (flushed_eq m c _))

theorem run_value : θ_run defs (onTc (τ := τ) (main (F := Ideal))) ⟨m, fun _ => 0, ρ⟩ fun r => ∀ c : Dev nD,
      r.2.mem ((c.tc : Thread nD τ).loc main_v2) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr_eq m c), (h c).2⟩) (Value.run_blocks m ρ)

end Cert.ReferenceIdeal.Val

end
-- ==== Proof.Join.lean ====
/- The kernel and the reference, over the reals: both outputs are the tokens times the scaled weights of each row's group. -/
module

public import proofs.«01_k».proof.Proof.ValueIdeal
public import proofs.«01_k».proof.Proof.QuantKernel
public import proofs.«01_k».proof.Proof.WeightKernel
public import proofs.«01_k».proof.Proof.RefValue
public import proofs.«01_k».proof.Proof.RefRun
public import proofs.«01_k».proof.Proof.PreFinite
public import proofs.«01_k».proof.Proof.Quant

@[expose] public section

set_option maxRecDepth 16384

noncomputable section

namespace Cert.Join

open Idealize.ShloMosaic Idealize.ShloMosaic.TcCoe

/-- The kernel's entry of row `512 * T + y` is the reference's. -/
theorem entry_eq (X : Vec Ideal Cert.KernelIdeal.S16384x2048 .bf16) (gs : IVec Cert.KernelIdeal.S16 32) (W : Vec Ideal Cert.KernelIdeal.S16x2048x2048 .fp8e4m3) (Sc : Vec Ideal Cert.KernelIdeal.S16x16x16 .f32)
    (hX : ∀ i, ∃ r : ℝ, X i = (r : EReal) ∧ |r| ≤ 2 ^ 128) (hS : Fill.S (Tables.gn gs) 16 = 16384)
    (T : ℕ) (y : Fin 512) (n : Fin 2048) (hT : 512 * T + y.val < 16384) :
    Cert.KernelIdeal.Gen.prodQ (Cert.KernelIdeal.Gen.wb W (Cert.KernelIdeal.Val.grow (Tables.gn gs) (512 * T + y.val))) (Cert.KernelIdeal.Gen.sb Sc (Cert.KernelIdeal.Val.grow (Tables.gn gs) (512 * T + y.val)))
        (Cert.KernelIdeal.Gen.lhsQ (Cert.KernelIdeal.Gen.xb X T)) (ValueIdx.ix2 y n)
      = Cert.ReferenceIdeal.Gen.refOut X (Tables.starts gs) (Tables.ends gs) W Sc (ValueIdx.ix2 ⟨512 * T + y.val, hT⟩ n) := by
  obtain ⟨a, ha, b0, b1⟩ := Cert.ReferenceIdeal.Gen.row_group (Tables.gn gs) hS (512 * T + y.val) hT
  rw [Cert.KernelIdeal.Val.grow_eq _ b0 b1]
  have hq : Cert.KernelIdeal.Gen.lhsQ (Cert.KernelIdeal.Gen.xb X T) = Cert.KernelIdeal.Gen.xb X T := Cert.KernelIdeal.Gen.lhsQ_id _ fun i => hX _
  rw [hq, Cert.KernelIdeal.Gen.prodQ_apply]
  have hr := Cert.ReferenceIdeal.Gen.refOut_apply X (Tables.starts gs) (Tables.ends gs) W Sc hX (Tables.gn gs) hS (fun i => Tables.starts_at i) (fun i => Tables.ends_at i) ⟨512 * T + y.val, hT⟩ n a ha b0 b1
  refine Eq.trans ?_ hr.symm
  unfold Cert.ReferenceIdeal.Gen.dotE
  refine Finset.sum_congr rfl fun k _ => ?_
  have hg : (⟨a % 16, Nat.mod_lt _ (by omega)⟩ : Fin 16) = ⟨a, ha⟩ := Fin.ext (Nat.mod_eq_of_lt ha)
  have hrow : (⟨(512 * T + y.val) % 16384, Nat.mod_lt _ (by omega)⟩ : Fin 16384) = ⟨512 * T + y.val, hT⟩ := Fin.ext (Nat.mod_eq_of_lt hT)
  have e1 : Cert.KernelIdeal.Gen.xb X T (ValueIdx.ix2 y k) = X (ValueIdx.ix2 ⟨512 * T + y.val, hT⟩ k) := congrArg (fun r => X (ValueIdx.ix2 r k)) hrow
  have e2 : Cert.KernelIdeal.Gen.wb W a (ix3 0 k n) = W (ix3 ⟨a, ha⟩ k n) := congrArg (fun g => W (ix3 g k n)) hg
  have e3 : Cert.KernelIdeal.Gen.sb Sc a (ix3 0 ⟨k.val / 128, by omega⟩ ⟨n.val / 128, by omega⟩) = Sc (ix3 ⟨a, ha⟩ ⟨k.val / 128, by omega⟩ ⟨n.val / 128, by omega⟩) :=
    congrArg (fun g => Sc (ix3 g ⟨k.val / 128, by omega⟩ ⟨n.val / 128, by omega⟩)) hg
  exact congrArg₂ (· * ·) e1 (congrArg₂ (· * ·) e2 e3)

theorem finite_of_pre {a0 : FVec Ideal Cert.KernelIdeal.S16384x2048 .bf16} {gs : IVec Cert.KernelIdeal.S16 32} {a2 : FVec Ideal Cert.KernelIdeal.S16x2048x2048 .fp8e4m3} {a3 : FVec Ideal Cert.KernelIdeal.S16x16x16 .f32}
    (h : Cert.Pre_groups_fill_tokens_finite.fn (F := Ideal) a0 gs a2 a3 = fun _ => 1#1) (i : Cert.KernelIdeal.S16384x2048.Idx) : ∃ r : ℝ, a0 i = (r : EReal) ∧ |r| ≤ 2 ^ 128 :=
  Quant.finite_of_le (a0 i) ((Cert.Pre.fill_of_pre' h).2 i)

theorem out_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h : Cert.Pre_groups_fill_tokens_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Val.outArr m' c = Cert.KernelIdeal.Val.outArr m c := by
  have hc : c = 0 := Subsingleton.elim (α := Fin 1) c 0
  subst hc
  have e : Cert.ReferenceIdeal.Val.outArr m' 0
      = Cert.ReferenceIdeal.Gen.refOut (m ((Dev.tc (0 : Dev Cert.KernelIdeal.nD) : Thread Cert.KernelIdeal.nD Cert.KernelIdeal.τ).loc Cert.KernelIdeal.main_arg0)) (Tables.starts (Cert.KernelIdeal.Gen.gsz m)) (Tables.ends (Cert.KernelIdeal.Gen.gsz m))
        (m ((Dev.tc (0 : Dev Cert.KernelIdeal.nD) : Thread Cert.KernelIdeal.nD Cert.KernelIdeal.τ).loc Cert.KernelIdeal.main_arg2)) (m ((Dev.tc (0 : Dev Cert.KernelIdeal.nD) : Thread Cert.KernelIdeal.nD Cert.KernelIdeal.τ).loc Cert.KernelIdeal.main_arg3)) := by
    unfold Cert.ReferenceIdeal.Val.outArr Cert.ReferenceIdeal.Val.gsz
    rw [h0, h1, h2, h3]
  rw [e]
  refine funext fun (i : Cert.KernelIdeal.S16384x2048.Idx) => ?_
  have hi : (i 0).val < 16384 := (i 0).isLt
  have hd : 512 * ((i 0).val / 512) + (i 0).val % 512 = (i 0).val := Nat.div_add_mod _ _
  have key := entry_eq _ (Cert.KernelIdeal.Gen.gsz m) (m ((Dev.tc (0 : Dev Cert.KernelIdeal.nD) : Thread Cert.KernelIdeal.nD Cert.KernelIdeal.τ).loc Cert.KernelIdeal.main_arg2))
    (m ((Dev.tc (0 : Dev Cert.KernelIdeal.nD) : Thread Cert.KernelIdeal.nD Cert.KernelIdeal.τ).loc Cert.KernelIdeal.main_arg3)) (finite_of_pre h) (Cert.Pre.fill_of_pre' h).1
    ((i 0).val / 512) ⟨(i 0).val % 512, Nat.mod_lt _ (by omega)⟩ (i 1) (lt_of_eq_of_lt hd hi)
  refine Eq.trans (congrArg _ ?_) key.symm
  refine (ValueIdx.eq_ix2 i).trans ?_
  exact congrArg (fun r => ValueIdx.ix2 r (i 1)) (Fin.ext hd.symm)

end Cert.Join

end
-- ==== Proof.BitsPoints.lean ====
/- TensorCore pallas_calls on their static grids — per window, at which points the pipeline fetches it and at
   which it writes it back (`Gen.fetchK_W`, `Gen.flushK_W`), in closed form, proved from the index map's shape
   where the generator reads it (each block index a grid coordinate or a constant) and decided over the grid
   otherwise; the current staging memrefs at a point (`Gen.stK_W`) and the kernel body as the pipeline calls it
   there (`Gen.bodyAtK`). What a certificate's
   `Dat.before` lemmas and body obligation take (Lib/Pipeline/Frame.lean `Dat.before_out_reset` /
   `before_out_acc`; FrameBody.lean `Dat.before_in_eq_fetched` needs none of it). DO NOT EDIT. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__kernel (grid0.coords t) (Memref.whole main_v25) (Memref.isWhole_whole _) (Memref.whole main_v42) (Memref.isWhole_whole _) (Memref.whole main_v1) (Memref.isWhole_whole _) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

end Cert.Kernel.Gen

end
-- ==== Proof.BitsRuns.lean ====
/- What the runs of the kernel's body share (the frame kit of the program, any number model). -/
module

public import proofs.«01_k».proof.Proof.Gen.Kernel.Launch
public import proofs.«01_k».proof.Proof.Gen.Kernel.Skeleton
public import proofs.«01_k».proof.Proof.BitsPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S47 .i32 := Memref.whole main_v25
abbrev htbM0_0 : tbM0_0.IsWhole := Memref.isWhole_whole _
abbrev tbM0_1 : Memref sig .tc .smem S47 .i32 := Memref.whole main_v42
abbrev htbM0_1 : tbM0_1.IsWhole := Memref.isWhole_whole _
abbrev tbM0_2 : Memref sig .tc .smem S16 .i32 := Memref.whole main_v1
abbrev htbM0_2 : tbM0_2.IsWhole := Memref.isWhole_whole _
abbrev tbM0_3 : Memref sig .tc .smem S16 .i32 := Memref.whole main_v0
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      (Pipeline.RDat.FramePost.arr_in h c 2 rfl).trans ((hA c 2).trans (V_main_arg3 m c))⟩) h

/-! ## The body's branch conditions -/

/-- The condition of the body's `scf.if` 0: over WORDS the body reads from its tables or input SMEM windows
    (`v3`, `v7`), so no function of the point — a case variable: a hypothesis of each run, a `by_cases`
    of the obligation and an `if` of `outsAt`, stated over the argument blocks' words there. -/
abbrev cond0_0 (i : grid0.Coords) (v3 : BitVec 32) (v7 : BitVec 32) : Prop := (Scalar.cmpi .ne (Scalar.extui (Scalar.ori (Scalar.cmpi .eq (BitVec.ofNat 32 (i 0).val) 0#32) (Scalar.cmpi .ne v3 v7))) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x2048 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x16x16 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x2048 .bf16 := spec0_3.stage ((cfgM m hO).slots t 3)
abbrev hs0_3 (hO : Ok m) (t : Fin (cfgM m hO).N) : (ms0_3 m hO t).IsWhole := hstage0_3 (((cfgM m hO).slots t 3).cast nbuf0_3)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S47) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S47) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S47) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S512x2048 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.BitsRunA.lean ====
/- The body's run at a point whose row tile is new. -/
module

public import proofs.«01_k».proof.Proof.BitsRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3336000 in
/-- The body's triple IN CASE A (`scf.if` 0 taken: points all): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg5 : Memref sig .tc .vmem S512x2048 .bf16) (harg5 : arg5.IsWhole) (arg6 : Memref sig .tc .vmem S1x2048x2048 .fp8e4m3) (harg6 : arg6.IsWhole) (arg7 : Memref sig .tc .vmem S1x16x16 .f32) (harg7 : arg7.IsWhole) (arg8 : Memref sig .tc .vmem S512x2048 .bf16) (harg8 : arg8.IsWhole) (arg9 : Memref sig .tc .vmem S512x2048 .bf16) (harg9 : arg9.IsWhole)
    (x0 : Vec F S512x2048 .bf16) (x1 : Vec F S1x2048x2048 .fp8e4m3) (x2 : Vec F S1x16x16 .f32) (xt0 : TbBuf0 (F := F) c tbM0_0) (xt1 : TbBuf0 (F := F) c tbM0_1) (xt2 : TbBuf0 (F := F) c tbM0_2) (xt3 : TbBuf0 (F := F) c tbM0_3) (hc0 : cond0_0 i (tbM0_1.view.readAt (Elt F) (Rect.unit (s := S47) (k0_off1 i) S1.size (k0_off1_inb i)).toLoadRect xt1 (Shape.Idx.first (numel1_S1.symm ▸ Nat.one_pos))) (tbM0_1.view.readAt (Elt F) (Rect.unit (s := S47) (k0_off2 i) S1.size (k0_off2_inb i)).toLoadRect xt1 (Shape.Idx.first (numel1_S1.symm ▸ Nat.one_pos)))) (k0_hw1 : k0_chk1 (tbM0_0.view.readAt (Elt F) (Rect.unit (s := S47) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__kernel i tbM0_0 htbM0_0 tbM0_1 htbM0_1 tbM0_2 htbM0_2 tbM0_3 htbM0_3 arg5 harg5 arg6 harg6 arg7 harg7 arg8 harg8 arg9 harg9) K := by
    intro E K
    simp only [cc0__kernel_eq_skeleton]; unfold cc0__kernel_skel
    simp only [k0_part84_eq_skeleton, k0_part20_eq_skeleton, k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HT0, HT1, HT2, HT3, Hk⟩
    obtain rfl := harg5.eq_unread hf0; obtain rfl := harg6.eq_unread hf1; obtain rfl := harg7.eq_unread hf2
    sl_exec (disch := first | sl_exact hc0 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _, _; isplitr; swap; · iexact H3
      ipureintro; rfl
    isplitl [HS0]
    · iexists _, _; isplitr; swap; · iexact HS0
      ipureintro; rfl
    isplitl [HT0]; · iexact HT0
    isplitl [HT1]; · iexact HT1
    isplitl [HT2]; · iexact HT2
    iexact HT3

end Cert.Kernel.Gen

end
-- ==== Proof.BitsRunB.lean ====
/- The body's run at a point whose row tile is the last one's. -/
module

public import proofs.«01_k».proof.Proof.BitsRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2792000 in
/-- The body's triple IN CASE B (`scf.if` 0 not taken: points all): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg5 : Memref sig .tc .vmem S512x2048 .bf16) (harg5 : arg5.IsWhole) (arg6 : Memref sig .tc .vmem S1x2048x2048 .fp8e4m3) (harg6 : arg6.IsWhole) (arg7 : Memref sig .tc .vmem S1x16x16 .f32) (harg7 : arg7.IsWhole) (arg8 : Memref sig .tc .vmem S512x2048 .bf16) (harg8 : arg8.IsWhole) (arg9 : Memref sig .tc .vmem S512x2048 .bf16) (harg9 : arg9.IsWhole)
    (x0 : Vec F S512x2048 .bf16) (x1 : Vec F S1x2048x2048 .fp8e4m3) (x2 : Vec F S1x16x16 .f32) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_1.view.readAt (Elt F) (Rect.unit (s := S47) (k0_off1 i) S1.size (k0_off1_inb i)).toLoadRect xt1 (Shape.Idx.first (numel1_S1.symm ▸ Nat.one_pos))) (tbM0_1.view.readAt (Elt F) (Rect.unit (s := S47) (k0_off2 i) S1.size (k0_off2_inb i)).toLoadRect xt1 (Shape.Idx.first (numel1_S1.symm ▸ Nat.one_pos)))) (k0_hw1 : k0_chk1 (tbM0_0.view.readAt (Elt F) (Rect.unit (s := S47) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__kernel i tbM0_0 htbM0_0 tbM0_1 htbM0_1 tbM0_2 htbM0_2 tbM0_3 htbM0_3 arg5 harg5 arg6 harg6 arg7 harg7 arg8 harg8 arg9 harg9) K := by
    intro E K
    simp only [cc0__kernel_eq_skeleton]; unfold cc0__kernel_skel
    simp only [k0_part84_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HT0, HT1, HT2, HT3, Hk⟩
    obtain rfl := harg5.eq_unread hf0; obtain rfl := harg6.eq_unread hf1; obtain rfl := harg7.eq_unread hf2
    sl_exec (disch := first | sl_exact hc0 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _, _; isplitr; swap; · iexact H3
      ipureintro; rfl
    isplitl [HS0]
    · iexists _, _; isplitr; swap; · iexact HS0
      ipureintro; rfl
    isplitl [HT0]; · iexact HT0
    isplitl [HT1]; · iexact HT1
    isplitl [HT2]; · iexact HT2
    iexact HT3

end Cert.Kernel.Gen

end
-- ==== Proof.BitsFrame.lean ====
/- The frame of the kernel: it terminates, leaves its arguments unchanged and its counters at zero. -/
module

public import proofs.«01_k».proof.Proof.BitsRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ (∃ d, owns (c : Thread nD τ) (ms0_3 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2]
  rw [show (dats m hO hH 0 c).Φ t.castSucc = iprop(Pipeline.ΦA spec0 c ∗ Pipeline.ΦT pre0 (tbl m) c) from rfl, PhiT0_eq, PhiA0_eq]
  by_cases h0 : cond0_0 (grid0.coords t) (tbM0_1.view.readAt (Elt F) (Rect.unit (s := S47) (k0_off1 (grid0.coords t)) S1.size (k0_off1_inb (grid0.coords t))).toLoadRect (tbl m 1) (Shape.Idx.first (numel1_S1.symm ▸ Nat.one_pos))) (tbM0_1.view.readAt (Elt F) (Rect.unit (s := S47) (k0_off2 (grid0.coords t)) S1.size (k0_off2_inb (grid0.coords t))).toLoadRect (tbl m 1) (Shape.Idx.first (numel1_S1.symm ▸ Nat.one_pos)))
  · iintro ⟨⟨⟨HS0, Hg⟩, ⟨HT0, HT1, HT2, HT3⟩⟩, Ho, ⟨%d0, H0⟩, ⟨%d1, H1⟩, ⟨%d2, H2⟩, ⟨%d3, H3⟩⟩
    iapply ((kernelRun0_A c (grid0.coords t) _ _ _ _ _ _ _ _ _ _ (iblk m hO c 0 t) (iblk m hO c 1 t) (iblk m hO c 2 t) (tbl m 0) (tbl m 1) (tbl m 2) (tbl m 3) h0 (Hyps.c0 hH c t)) Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    isplitl [HT2]; · iexact HT2
    isplitl [HT3]; · iexact HT3
    iintro ⟨H0, H1, H2, H3, HS0, HT0, HT1, HT2, HT3⟩
    isplitl [HS0 Hg HT0 HT1 HT2 HT3]
    · isplitl [HS0 Hg]
      · isplitl [HS0]
        · iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexact H3
  · iintro ⟨⟨⟨HS0, Hg⟩, ⟨HT0, HT1, HT2, HT3⟩⟩, Ho, ⟨%d0, H0⟩, ⟨%d1, H1⟩, ⟨%d2, H2⟩, ⟨%d3, H3⟩⟩
    iapply ((kernelRun0_B c (grid0.coords t) _ _ _ _ _ _ _ _ _ _ (iblk m hO c 0 t) (iblk m hO c 1 t) (iblk m hO c 2 t) (tbl m 0) (tbl m 1) (tbl m 2) (tbl m 3) h0 (Hyps.c0 hH c t)) Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    isplitl [HT2]; · iexact HT2
    isplitl [HT3]; · iexact HT3
    iintro ⟨H0, H1, H2, H3, HS0, HT0, HT1, HT2, HT3⟩
    isplitl [HS0 Hg HT0 HT1 HT2 HT3]
    · isplitl [HS0 Hg]
      · isplitl [HS0]
        · iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hH) ((θ_run defs _ _).mono (fun _ h => h.2) (run_main_quiescent m ρ hO hH))

end Cert.Kernel.Gen

end
-- ==== Proof.TabBits.lean ====
/- What the host leaves in the kernel's four tables: the functions of the group sizes of Proof/Tables.lean. -/
module

public import proofs.«01_k».proof.Proof.BitsRuns
public import proofs.«01_k».proof.Proof.Tables
public import Idealize.ShloMosaic.Lib.StableHlo.RunRead

@[expose] public section

set_option maxRecDepth 16384

noncomputable section

namespace Cert.Kernel.Gen

open Idealize.ShloMosaic Idealize.ShloMosaic.TcCoe Idealize.ShloMosaic.Tactic Idealize.ShloMosaic.StableHlo

variable {F : FTy → Type} [FloatOps F]
variable (m : (ℓ : Loc nD τ sig) → Buf (Elt F) ℓ)

/-- The group sizes as launched. -/
abbrev gsz : IVec S16 32 := m (((0 : Dev nD) : Thread nD τ).loc main_arg1)

/-! ## Line by line: what each line of host operations leaves, of what it found -/

section
variable (σ : (b : DevRef τ sig) → b.ty.Contents (Elt F))

theorem l0_v0 : StableHlo.after hostOps0 σ (Proc.devRef .tc main_v0) = Tables.csum (σ (Proc.devRef .tc main_arg1)) := by
  after_reads_simp
  all_goals try simp -implicitDefEqProofs only [StableHlo.TRef.toBuf, StableHlo.TRef.ofBuf, cast_cast, cast_eq]
  all_goals rfl

theorem l0_arg1 : StableHlo.after hostOps0 σ (Proc.devRef .tc main_arg1) = σ (Proc.devRef .tc main_arg1) := by
  after_reads_simp

theorem l1_v1 : StableHlo.after hostOps0_1 σ (Proc.devRef .tc main_v1) = subi (σ (Proc.devRef .tc main_v0)) (σ (Proc.devRef .tc main_arg1)) := by
  after_reads_simp
  all_goals try simp -implicitDefEqProofs only [StableHlo.TRef.toBuf, StableHlo.TRef.ofBuf, cast_cast, cast_eq]
  all_goals rfl

theorem l1_c : StableHlo.after hostOps0_1 σ (Proc.devRef .tc main_c) = constantI S_ 32 512#32 := by
  after_reads_simp
  all_goals try simp -implicitDefEqProofs only [StableHlo.TRef.toBuf, StableHlo.TRef.ofBuf, cast_cast, cast_eq]
  all_goals rfl

theorem l1_v0 : StableHlo.after hostOps0_1 σ (Proc.devRef .tc main_v0) = σ (Proc.devRef .tc main_v0) := by
  after_reads_simp

theorem l1_arg1 : StableHlo.after hostOps0_1 σ (Proc.devRef .tc main_arg1) = σ (Proc.devRef .tc main_arg1) := by
  after_reads_simp

theorem l2_v2 : StableHlo.after hostOps0_2 σ (Proc.devRef .tc main_v2) = Routing.pyDiv bcast_S_S16 (σ (Proc.devRef .tc main_v1)) (σ (Proc.devRef .tc main_c)) := by
  after_reads_simp
  all_goals try simp -implicitDefEqProofs only [StableHlo.TRef.toBuf, StableHlo.TRef.ofBuf, cast_cast, cast_eq]
  all_goals rfl

theorem l2_v0 : StableHlo.after hostOps0_2 σ (Proc.devRef .tc main_v0) = σ (Proc.devRef .tc main_v0) := by
  after_reads_simp

theorem l2_v1 : StableHlo.after hostOps0_2 σ (Proc.devRef .tc main_v1) = σ (Proc.devRef .tc main_v1) := by
  after_reads_simp

theorem l2_arg1 : StableHlo.after hostOps0_2 σ (Proc.devRef .tc main_arg1) = σ (Proc.devRef .tc main_arg1) := by
  after_reads_simp

theorem l3_v4 : StableHlo.after hostOps0_3 σ (Proc.devRef .tc main_v4) = cmpi .sgt (σ (Proc.devRef .tc main_arg1)) (Tables.k16 0#32) := by
  after_reads_simp
  all_goals try simp -implicitDefEqProofs only [StableHlo.TRef.toBuf, StableHlo.TRef.ofBuf, cast_cast, cast_eq]
  all_goals rfl

theorem l3_v6 : StableHlo.after hostOps0_3 σ (Proc.devRef .tc main_v6) = subi (σ (Proc.devRef .tc main_v0)) (Tables.k16 1#32) := by
  after_reads_simp
  all_goals try simp -implicitDefEqProofs only [StableHlo.TRef.toBuf, StableHlo.TRef.ofBuf, cast_cast, cast_eq]
  all_goals rfl

theorem l3_c2 : StableHlo.after hostOps0_3 σ (Proc.devRef .tc main_c_2) = constantI S_ 32 512#32 := by
  after_reads_simp
  all_goals try simp -implicitDefEqProofs only [StableHlo.TRef.toBuf, StableHlo.TRef.ofBuf, cast_cast, cast_eq]
  all_goals rfl

theorem l3_v0 : StableHlo.after hostOps0_3 σ (Proc.devRef .tc main_v0) = σ (Proc.devRef .tc main_v0) := by
  after_reads_simp

theorem l3_v1 : StableHlo.after hostOps0_3 σ (Proc.devRef .tc main_v1) = σ (Proc.devRef .tc main_v1) := by
  after_reads_simp

theorem l3_v2 : StableHlo.after hostOps0_3 σ (Proc.devRef .tc main_v2) = σ (Proc.devRef .tc main_v2) := by
  after_reads_simp

theorem l4_v7 : StableHlo.after hostOps0_4 σ (Proc.devRef .tc main_v7) = Routing.pyDiv bcast_S_S16 (σ (Proc.devRef .tc main_v6)) (σ (Proc.devRef .tc main_c_2)) := by
  after_reads_simp
  all_goals try simp -implicitDefEqProofs only [StableHlo.TRef.toBuf, StableHlo.TRef.ofBuf, cast_cast, cast_eq]
  all_goals rfl

theorem l4_v0 : StableHlo.after hostOps0_4 σ (Proc.devRef .tc main_v0) = σ (Proc.devRef .tc main_v0) := by
  after_reads_simp

theorem l4_v1 : StableHlo.after hostOps0_4 σ (Proc.devRef .tc main_v1) = σ (Proc.devRef .tc main_v1) := by
  after_reads_simp

theorem l4_v2 : StableHlo.after hostOps0_4 σ (Proc.devRef .tc main_v2) = σ (Proc.devRef .tc main_v2) := by
  after_reads_simp

theorem l4_v4 : StableHlo.after hostOps0_4 σ (Proc.devRef .tc main_v4) = σ (Proc.devRef .tc main_v4) := by
  after_reads_simp

theorem l5_v10 : StableHlo.after hostOps0_5 σ (Proc.devRef .tc main_v10) = addi (subi (σ (Proc.devRef .tc main_v7)) (σ (Proc.devRef .tc main_v2))) (Tables.k16 1#32) := by
  after_reads_simp
  all_goals try simp -implicitDefEqProofs only [StableHlo.TRef.toBuf, StableHlo.TRef.ofBuf, cast_cast, cast_eq]
  all_goals rfl

theorem l5_c4 : StableHlo.after hostOps0_5 σ (Proc.devRef .tc main_c_4) = constantI S_ 32 0#32 := by
  after_reads_simp
  all_goals try simp -implicitDefEqProofs only [StableHlo.TRef.toBuf, StableHlo.TRef.ofBuf, cast_cast, cast_eq]
  all_goals rfl

theorem l5_v0 : StableHlo.after hostOps0_5 σ (Proc.devRef .tc main_v0) = σ (Proc.devRef .tc main_v0) := by
  after_reads_simp

theorem l5_v1 : StableHlo.after hostOps0_5 σ (Proc.devRef .tc main_v1) = σ (Proc.devRef .tc main_v1) := by
  after_reads_simp

theorem l5_v2 : StableHlo.after hostOps0_5 σ (Proc.devRef .tc main_v2) = σ (Proc.devRef .tc main_v2) := by
  after_reads_simp

theorem l5_v4 : StableHlo.after hostOps0_5 σ (Proc.devRef .tc main_v4) = σ (Proc.devRef .tc main_v4) := by
  after_reads_simp

theorem l6_v11 : StableHlo.after hostOps0_6 σ (Proc.devRef .tc main_v11) = select (σ (Proc.devRef .tc main_v4)) (σ (Proc.devRef .tc main_v10)) (broadcastInDim S16 ![] bcast_S_S16 (σ (Proc.devRef .tc main_c_4))) := by
  after_reads_simp
  all_goals try simp -implicitDefEqProofs only [StableHlo.TRef.toBuf, StableHlo.TRef.ofBuf, cast_cast, cast_eq]
  all_goals rfl

theorem l6_v0 : StableHlo.after hostOps0_6 σ (Proc.devRef .tc main_v0) = σ (Proc.devRef .tc main_v0) := by
  after_reads_simp

theorem l6_v1 : StableHlo.after hostOps0_6 σ (Proc.devRef .tc main_v1) = σ (Proc.devRef .tc main_v1) := by
  after_reads_simp

theorem l6_v2 : StableHlo.after hostOps0_6 σ (Proc.devRef .tc main_v2) = σ (Proc.devRef .tc main_v2) := by
  after_reads_simp

theorem l7_v12 : StableHlo.after hostOps0_7 σ (Proc.devRef .tc main_v12) = Tables.csum (σ (Proc.devRef .tc main_v11)) := by
  after_reads_simp
  all_goals try simp -implicitDefEqProofs only [StableHlo.TRef.toBuf, StableHlo.TRef.ofBuf, cast_cast, cast_eq]
  all_goals rfl

theorem l7_v0 : StableHlo.after hostOps0_7 σ (Proc.devRef .tc main_v0) = σ (Proc.devRef .tc main_v0) := by
  after_reads_simp

theorem l7_v1 : StableHlo.after hostOps0_7 σ (Proc.devRef .tc main_v1) = σ (Proc.devRef .tc main_v1) := by
  after_reads_simp

theorem l7_v2 : StableHlo.after hostOps0_7 σ (Proc.devRef .tc main_v2) = σ (Proc.devRef .tc main_v2) := by
  after_reads_simp

theorem l7_v11 : StableHlo.after hostOps0_7 σ (Proc.devRef .tc main_v11) = σ (Proc.devRef .tc main_v11) := by
  after_reads_simp

theorem l8_v25 : StableHlo.after hostOps0_8 σ (Proc.devRef .tc main_v25) = Tables.groupOf (σ (Proc.devRef .tc main_v12)) := by
  after_reads_simp
  all_goals try simp -implicitDefEqProofs only [StableHlo.TRef.toBuf, StableHlo.TRef.ofBuf, cast_cast, cast_eq]
  all_goals rfl

theorem l8_v42 : StableHlo.after hostOps0_8 σ (Proc.devRef .tc main_v42) = Tables.tileOf (σ (Proc.devRef .tc main_v2)) (σ (Proc.devRef .tc main_v11)) (σ (Proc.devRef .tc main_v12)) := by
  after_reads_simp
  all_goals try simp -implicitDefEqProofs only [StableHlo.TRef.toBuf, StableHlo.TRef.ofBuf, cast_cast, cast_eq]
  all_goals rfl

theorem l8_v0 : StableHlo.after hostOps0_8 σ (Proc.devRef .tc main_v0) = σ (Proc.devRef .tc main_v0) := by
  after_reads_simp

theorem l8_v1 : StableHlo.after hostOps0_8 σ (Proc.devRef .tc main_v1) = σ (Proc.devRef .tc main_v1) := by
  after_reads_simp

end

theorem tbl3_eq : tbl m 3 = Tables.ends (gsz m) := by
  show StableHlo.after (List.flatten [hostOps0, hostOps0_1, hostOps0_2, hostOps0_3, hostOps0_4, hostOps0_5, hostOps0_6, hostOps0_7, hostOps0_8]) (fun b => m (0, b)) (Proc.devRef .tc main_v0) = _
  simp only [List.flatten_cons, List.flatten_nil, List.append_nil, StableHlo.after_append]
  rw [l8_v0]
  rw [l7_v0, l6_v0, l5_v0, l4_v0, l3_v0, l2_v0, l1_v0, l0_v0]
  rfl

theorem tbl2_eq : tbl m 2 = Tables.starts (gsz m) := by
  show StableHlo.after (List.flatten [hostOps0, hostOps0_1, hostOps0_2, hostOps0_3, hostOps0_4, hostOps0_5, hostOps0_6, hostOps0_7, hostOps0_8]) (fun b => m (0, b)) (Proc.devRef .tc main_v1) = _
  simp only [List.flatten_cons, List.flatten_nil, List.append_nil, StableHlo.after_append]
  rw [l8_v1]
  rw [l7_v1, l6_v1, l5_v1, l4_v1, l3_v1, l2_v1, l1_v1, l0_v0, l0_arg1]
  rfl

theorem tbl0_eq : tbl m 0 = Tables.group (gsz m) := by
  show StableHlo.after (List.flatten [hostOps0, hostOps0_1, hostOps0_2, hostOps0_3, hostOps0_4, hostOps0_5, hostOps0_6, hostOps0_7, hostOps0_8]) (fun b => m (0, b)) (Proc.devRef .tc main_v25) = _
  simp only [List.flatten_cons, List.flatten_nil, List.append_nil, StableHlo.after_append]
  rw [l8_v25]
  rw [l7_v12, l6_v11, l5_v10, l5_v4, l5_c4, l4_v7, l4_v4, l4_v2, l3_c2, l3_v6, l3_v4, l3_v2, l2_v2, l2_v0, l2_arg1, l1_v1, l1_v0, l1_c, l1_arg1, l0_v0, l0_arg1]
  rfl

theorem tbl1_eq : tbl m 1 = Tables.tile (gsz m) := by
  show StableHlo.after (List.flatten [hostOps0, hostOps0_1, hostOps0_2, hostOps0_3, hostOps0_4, hostOps0_5, hostOps0_6, hostOps0_7, hostOps0_8]) (fun b => m (0, b)) (Proc.devRef .tc main_v42) = _
  simp only [List.flatten_cons, List.flatten_nil, List.append_nil, StableHlo.after_append]
  rw [l8_v42]
  rw [l7_v2, l7_v11, l7_v12, l6_v2, l6_v11, l5_v2, l5_v10, l5_v4, l5_c4, l4_v7, l4_v4, l4_v2, l3_c2, l3_v6, l3_v4, l3_v2, l2_v2, l2_v0, l2_arg1, l1_v1, l1_v0, l1_c, l1_arg1, l0_v0, l0_arg1]
  rfl

end Cert.Kernel.Gen

end
-- ==== Proof.OkBits.lean ====
/- Where the group sizes fill the rows the kernel's index maps stay inside the arrays, and the body's table reads are in range. -/
module

public import proofs.«01_k».proof.Proof.TabBits
public import Idealize.ShloMosaic.Lib.PairWhole

@[expose] public section

set_option maxRecDepth 16384

noncomputable section

namespace Cert.Kernel.Gen

open Idealize.ShloMosaic Idealize.ShloMosaic.TcCoe Idealize.ShloMosaic.Tactic

variable {F : FTy → Type} [FloatOps F]
variable (m : (ℓ : Loc nD τ sig) → Buf (Elt F) ℓ)

/-- A grid point's number. -/
abbrev pn (i : grid0.Coords) : Fin 47 := i 0

theorem pn_word (i : grid0.Coords) : (Scalar.indexCast (BitVec.ofNat 32 (i 0).val)).toNat = (pn i).val := by
  have h : (pn i).val < 47 := (pn i).isLt
  have e : (i 0).val = (pn i).val := rfl
  show (BitVec.ofNat 32 (i 0).val).toNat = _
  rw [e, BitVec.toNat_ofNat]
  omega

/-- The word a table of 47 holds at a point. -/
theorem word_at (n k : ℕ) (e : n = k) (hk : k < 47) (x : IVec S47 32) (h : ∀ a, (![n] : Fin 1 → ℕ) a + S1.size a ≤ S47.size a) (hp : 0 < (Rect.unit (s := S47) ![n] S1.size h).shape.numel) :
    x ((Rect.unit (s := S47) ![n] S1.size h).emb (Shape.Idx.first hp)) = x (ValueIdx.ix1 ⟨k, hk⟩) := by
  subst e
  refine congrArg x (funext fun a => Fin.ext ?_)
  match a with
  | ⟨0, _⟩ => rfl

variable (hS : Fill.S (Tables.gn (gsz m)) 16 = 16384)
include hS

theorem tile_word (i : grid0.Coords) (h) :
    (tbl m).at 1 (Rect.unit (s := S47) ![(Scalar.indexCast (BitVec.ofNat 32 (i 0).val)).toNat] S1.size h) numel1_S1 = BitVec.ofNat 32 (Fill.tile (Tables.gn (gsz m)) (pn i).val) := by
  refine (word_at _ _ (pn_word i) (pn i).isLt (tbl m 1) h _).trans ?_
  rw [tbl1_eq]
  exact Tables.tile_at hS (pn i)

theorem group_word (i : grid0.Coords) (h) :
    (tbl m).at 0 (Rect.unit (s := S47) ![(Scalar.indexCast (BitVec.ofNat 32 (i 0).val)).toNat] S1.size h) numel1_S1 = BitVec.ofNat 32 (Fill.grp (Tables.gn (gsz m)) (pn i).val) := by
  refine (word_at _ _ (pn_word i) (pn i).isLt (tbl m 0) h _).trans ?_
  rw [tbl0_eq]
  exact Tables.group_at hS (pn i)

theorem tr0_eq (i : grid0.Coords) : cc0_transform_0 k0_off1_inb numel1_S1 (tbl m) i = ![Fill.tile (Tables.gn (gsz m)) (pn i).val, 0] := by
  have hl := Fill.tile_lt hS (pn i).val
  refine (congrArg (fun w : BitVec 32 => (![w.toNat, 0] : Fin 2 → ℕ)) (tile_word m hS i (k0_off1_inb i))).trans ?_
  show ![(BitVec.ofNat 32 _).toNat, 0] = _
  rw [BitVec.toNat_ofNat, Nat.mod_eq_of_lt (by omega)]
theorem tr3_eq (i : grid0.Coords) : cc0_transform_3 k0_off1_inb numel1_S1 (tbl m) i = ![Fill.tile (Tables.gn (gsz m)) (pn i).val, 0] := by
  have hl := Fill.tile_lt hS (pn i).val
  refine (congrArg (fun w : BitVec 32 => (![w.toNat, 0] : Fin 2 → ℕ)) (tile_word m hS i (k0_off1_inb i))).trans ?_
  show ![(BitVec.ofNat 32 _).toNat, 0] = _
  rw [BitVec.toNat_ofNat, Nat.mod_eq_of_lt (by omega)]
theorem tr1_eq (i : grid0.Coords) : cc0_transform_1 k0_off1_inb numel1_S1 (tbl m) i = ![Fill.grp (Tables.gn (gsz m)) (pn i).val, 0, 0] := by
  have hl := (Fill.grp_spec hS (pn i).val).1
  refine (congrArg (fun w : BitVec 32 => (![w.toNat, 0, 0] : Fin 3 → ℕ)) (group_word m hS i (k0_off1_inb i))).trans ?_
  show ![(BitVec.ofNat 32 _).toNat, 0, 0] = _
  rw [BitVec.toNat_ofNat, Nat.mod_eq_of_lt (by omega)]
theorem tr2_eq (i : grid0.Coords) : cc0_transform_2 k0_off1_inb numel1_S1 (tbl m) i = ![Fill.grp (Tables.gn (gsz m)) (pn i).val, 0, 0] := by
  have hl := (Fill.grp_spec hS (pn i).val).1
  refine (congrArg (fun w : BitVec 32 => (![w.toNat, 0, 0] : Fin 3 → ℕ)) (group_word m hS i (k0_off1_inb i))).trans ?_
  show ![(BitVec.ofNat 32 _).toNat, 0, 0] = _
  rw [BitVec.toNat_ofNat, Nat.mod_eq_of_lt (by omega)]

omit hS in
theorem inb2 (k : ℕ) (hk : k < 32) (f : Fin 2 → ℕ) (e : f = ![k, 0]) : ∀ a, (f a + 1) * S512x2048.size a ≤ S16384x2048.size a := by
  subst e
  intro a
  match a with
  | ⟨0, _⟩ => show (k + 1) * 512 ≤ 16384; omega
  | ⟨1, _⟩ => show (0 + 1) * 2048 ≤ 2048; omega
omit hS in
theorem inb3 (k : ℕ) (hk : k < 16) (f : Fin 3 → ℕ) (e : f = ![k, 0, 0]) : ∀ a, (f a + 1) * S1x2048x2048.size a ≤ S16x2048x2048.size a := by
  subst e
  intro a
  match a with
  | ⟨0, _⟩ => show (k + 1) * 1 ≤ 16; omega
  | ⟨1, _⟩ => show (0 + 1) * 2048 ≤ 2048; omega
  | ⟨2, _⟩ => show (0 + 1) * 2048 ≤ 2048; omega
omit hS in
theorem inb3' (k : ℕ) (hk : k < 16) (f : Fin 3 → ℕ) (e : f = ![k, 0, 0]) : ∀ a, (f a + 1) * S1x16x16.size a ≤ S16x16x16.size a := by
  subst e
  intro a
  match a with
  | ⟨0, _⟩ => show (k + 1) * 1 ≤ 16; omega
  | ⟨1, _⟩ => show (0 + 1) * 16 ≤ 16; omega
  | ⟨2, _⟩ => show (0 + 1) * 16 ≤ 16; omega

omit hS in
theorem ww2 (f : Fin 2 → ℕ) (h) : (Rect.block (s := S16384x2048) S512x2048.size f h).WholeWords (EltTy.packing .bf16) := by
  refine (Rect.packedRows_of_rowAxis _ _ (by decide) ?_ ?_ rfl).wholeWords
  · show 2 ∣ f 0 * 512
    exact Dvd.dvd.mul_left (by decide) _
  · show 2 ∣ 512
    decide
omit hS in
theorem ww3 (k : ℕ) (f : Fin 3 → ℕ) (e : f = ![k, 0, 0]) (h) : (Rect.block (s := S16x2048x2048) S1x2048x2048.size f h).WholeWords (EltTy.packing .fp8e4m3) := by
  subst e
  exact .inr ⟨by decide, rfl, rfl, rfl⟩

/-- Every block lies inside its array. -/
theorem ok_of_fill : Ok m :=
  ⟨fun i => ⟨inb2 _ (Fill.tile_lt hS _) _ (tr0_eq m hS i), .inr (ww2 _ _)⟩,
   fun i => ⟨inb3 _ (Fill.grp_spec hS _).1 _ (tr1_eq m hS i), .inr (ww3 _ _ (tr1_eq m hS i) _)⟩,
   fun i => ⟨inb3' _ (Fill.grp_spec hS _).1 _ (tr2_eq m hS i), .inl rfl⟩,
   fun i => ⟨inb2 _ (Fill.tile_lt hS _) _ (tr3_eq m hS i), .inr (ww2 _ _)⟩⟩

/-- The body's reads of the two bounds stay in range. -/
theorem hyps_of_fill (hO : Ok m) : Hyps m hO := Hyps.of fun c t => by
  have hl := (Fill.grp_spec hS (pn (grid0.coords t)).val).1
  have e : tbM0_0.view.readAt (Elt F) (Rect.unit (s := S47) (k0_off1 (grid0.coords t)) S1.size (k0_off1_inb (grid0.coords t))).toLoadRect (tbl m 0) (Shape.Idx.first (numel1_S1.symm ▸ Nat.one_pos))
      = BitVec.ofNat 32 (Fill.grp (Tables.gn (gsz m)) (pn (grid0.coords t)).val) := group_word m hS (grid0.coords t) _
  unfold Hyps.p0
  rw [e]
  intro a
  match a with
  | ⟨0, _⟩ =>
    show (BitVec.ofNat 32 (Fill.grp (Tables.gn (gsz m)) (pn (grid0.coords t)).val)).toNat + 1 ≤ 16
    rw [BitVec.toNat_ofNat, Nat.mod_eq_of_lt (by omega)]
    omega

end Cert.Kernel.Gen

end
-- ==== Proof.lean ====
/- The proof of the certificate's claim: the frames of the kernel and of the reference, what the ideal text
   preserves, and that over the reals the kernel and the reference leave the same output. -/
module

public import proofs.«01_k».proof.Defs
public import proofs.«01_k».proof.Proof.Gen.Kernel
public import proofs.«01_k».proof.Proof.Gen.Pre_groups_fill_tokens_finite
public import proofs.«01_k».proof.Proof.Gen.KernelIdeal
public import proofs.«01_k».proof.Proof.Gen.ReferenceIdeal
public import proofs.«01_k».proof.Proof.Gen.ReferenceIdeal.Frame
public import proofs.«01_k».proof.Proof.Pre
public import proofs.«01_k».proof.Proof.Gen.ReferenceIdeal.Value
public import proofs.«01_k».proof.Proof.PreFinite
public import proofs.«01_k».proof.Proof.ValueIdeal
public import proofs.«01_k».proof.Proof.Join
public import proofs.«01_k».proof.Proof.BitsFrame
public import proofs.«01_k».proof.Proof.OkBits
public import proofs.«01_k».proof.Proof.IdealFrame
public import proofs.«01_k».proof.Proof.OkIdeal
public import Idealize.ShloMosaic.Adequacy
public import Idealize.ShloMosaic.Init

@[expose] public section

noncomputable section

namespace Cert.Proof

open Idealize.ShloMosaic

theorem claim : Cert.Claim :=
  ⟨Cert.Kernel.Gen.facts, Cert.KernelIdeal.Gen.facts, Cert.ReferenceIdeal.Gen.facts, Cert.Pre_groups_fill.Gen.facts, Cert.Pre_groups_fill_tokens_finite.Gen.facts,
    fun m ρ h => Cert.Kernel.Gen.frame m ρ (Cert.Kernel.Gen.ok_of_fill m (Cert.Pre.fill_of_pre (h 0)))
      (Cert.Kernel.Gen.hyps_of_fill m (Cert.Pre.fill_of_pre (h 0)) _),
    fun m ρ h => Cert.KernelIdeal.Fr.frame m ρ (Cert.KernelIdeal.Gen.ok_of_fill m (Cert.Pre.fill_of_pre (h 0)))
      (Cert.KernelIdeal.Gen.hyps_of_fill m (Cert.Pre.fill_of_pre (h 0)) _),
    fun m ρ h => Cert.KernelIdeal.Fr.frame m ρ (Cert.KernelIdeal.Gen.ok_of_fill m (Cert.Pre.fill_of_pre' (h 0)).1)
      (Cert.KernelIdeal.Gen.hyps_of_fill m (Cert.Pre.fill_of_pre' (h 0)).1 _),
    fun m ρ _ => Cert.ReferenceIdeal.Gen.frame m ρ,
    fun m ρ _ => Cert.ReferenceIdeal.Gen.frame m ρ,
    trivial,
    fun m g m' g' h hm => ⟨fun c => Cert.KernelIdeal.Val.outArr m c,
      Cert.KernelIdeal.Val.run_value m g (Cert.Pre.fill_of_pre' (h 0)).1 (Cert.KernelIdeal.Gen.ok_of_fill m (Cert.Pre.fill_of_pre' (h 0)).1)
        (Cert.KernelIdeal.Gen.hyps_of_fill m (Cert.Pre.fill_of_pre' (h 0)).1 _),
      (θ_run (Cert.ReferenceIdeal.defs (F := Ideal)) _ _).mono
        (fun r hr c => ⟨(hr c).1.trans (Cert.Join.out_eq m m' c (h c) (hm c).1 (hm c).2.1 (hm c).2.2.1 (hm c).2.2.2), (hr c).2⟩)
        (Cert.ReferenceIdeal.Val.run_value m' g')⟩⟩

end Cert.Proof

end
